-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_within_capacity_KernelIdeal [hPre_routed_within_capacity_KernelIdeal : Cert.Pre_routed_within_capacity_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_within_capacity_ReferenceIdeal [hPre_routed_within_capacity_ReferenceIdeal : Cert.Pre_routed_within_capacity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_within_capacity_KernelIdeal [hKernelIdeal : Cert.KernelIdeal.Facts] [hPre_routed_within_capacity_KernelIdeal : Cert.Pre_routed_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_within_capacity_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_within_capacity_ReferenceIdeal [hReferenceIdeal : Cert.ReferenceIdeal.Facts] [hPre_routed_within_capacity_ReferenceIdeal : Cert.Pre_routed_within_capacity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_within_capacity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_within_capacity_KernelIdeal [hKernelIdeal : Cert.KernelIdeal.Facts] [hReferenceIdeal : Cert.ReferenceIdeal.Facts] [hPre_routed_within_capacity_KernelIdeal : Cert.Pre_routed_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_within_capacity_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_within_capacity_KernelIdeal : Cert.Pre_routed_within_capacity_KernelIdeal.Facts) (hPre_routed_within_capacity_ReferenceIdeal : Cert.Pre_routed_within_capacity_ReferenceIdeal.Facts),
    quiescent_Kernel (hKernel := hKernel)
    ∧ quiescent_KernelIdeal (hKernelIdeal := hKernelIdeal)
    ∧ quiescent_KernelIdeal_pre_routed_within_capacity_KernelIdeal (hKernelIdeal := hKernelIdeal) (hPre_routed_within_capacity_KernelIdeal := hPre_routed_within_capacity_KernelIdeal)
    ∧ quiescent_ReferenceIdeal (hReferenceIdeal := hReferenceIdeal)
    ∧ quiescent_ReferenceIdeal_pre_routed_within_capacity_ReferenceIdeal (hReferenceIdeal := hReferenceIdeal) (hPre_routed_within_capacity_ReferenceIdeal := hPre_routed_within_capacity_ReferenceIdeal)
    ∧ preserves_Kernel_KernelIdeal
    ∧ algebraic_KernelIdeal_ReferenceIdeal_pre_routed_within_capacity_KernelIdeal (hKernelIdeal := hKernelIdeal) (hReferenceIdeal := hReferenceIdeal) (hPre_routed_within_capacity_KernelIdeal := hPre_routed_within_capacity_KernelIdeal)
-- ==== Pre_routed_within_capacity_KernelIdeal.lean ====
abbrev S2048x512 : Shape := ⟨2, ![2048, 512]⟩
abbrev S512x128 : Shape := ⟨2, ![512, 128]⟩
abbrev S2048x1 : Shape := ⟨2, ![2048, 1]⟩
abbrev S4x512x1024 : Shape := ⟨3, ![4, 512, 1024]⟩
abbrev S2048 : Shape := ⟨1, ![2048]⟩
abbrev S_ : Shape := ⟨0, ![]⟩
abbrev S1x2048 : Shape := ⟨2, ![1, 2048]⟩
abbrev S2048x2048 : Shape := ⟨2, ![2048, 2048]⟩

class Facts : Prop where
  shapeCasts_S2048x1_S2048 : S2048x1.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  natLt_1_32 : 1 < 32
  reducesTo_S2048x2048_S2048_d1 : S2048x2048.ReducesTo [1] S2048
  h_S_ : 0 < S_.numel

variable [Facts]

def fn {F : FTy → Type} [FloatOps F] (main_arg0 : FVec F S2048x512 .bf16) (main_arg1 : FVec F S512x128 .bf16) (main_arg2 : IVec S2048x1 32) (main_arg3 : FVec F S4x512x1024 .bf16) : IVec S2048 1 :=
  let main_v0 : IVec S2048 32 := shapeCast S2048 main_arg2 shapeCasts_S2048x1_S2048
  let main_c : IVec S_ 32 := constantI S_ 32 4#32
  let main_v1 : IVec S2048 32 := broadcastInDim S2048 ![] bcast_S_S2048 main_c
  let main_v2 : IVec S2048 32 := Host.divsi main_v0 main_v1
  let main_v3 : IVec S2048x1 32 := broadcastInDim S2048x1 ![0] bcast_S2048_S2048x1_0 main_v2
  let main_v4 : IVec S1x2048 32 := broadcastInDim S1x2048 ![1] bcast_S2048_S1x2048_1 main_v2
  let main_v5 : IVec S2048x2048 32 := broadcastInDim S2048x2048 ![0, 1] bcast_S2048x1_S2048x2048_0_1 main_v3
  let main_v6 : IVec S2048x2048 32 := broadcastInDim S2048x2048 ![0, 1] bcast_S1x2048_S2048x2048_0_1 main_v4
  let main_v7 : IVec S2048x2048 1 := cmpi .eq main_v5 main_v6
  let main_v8 : IVec S2048x2048 32 := (extui 32 · natLt_1_32) main_v7
  let main_c_0 : IVec S_ 32 := constantI S_ 32 0#32
  let main_v9 : IVec S2048 32 := (fun x v => Host.reduce IntOp.addi x v reducesTo_S2048x2048_S2048_d1 h_S_) main_v8 main_c_0
  let main_c_1 : IVec S_ 32 := constantI S_ 32 0#32
  let main_v10 : IVec S2048 32 := broadcastInDim S2048 ![] bcast_S_S2048 main_c_1
  let main_v11 : IVec S2048 1 := cmpi .sge main_v0 main_v10
  let main_c_2 : IVec S_ 32 := constantI S_ 32 128#32
  let main_v12 : IVec S2048 32 := broadcastInDim S2048 ![] bcast_S_S2048 main_c_2
  let main_v13 : IVec S2048 1 := cmpi .slt main_v0 main_v12
  let main_v14 : IVec S2048 1 := andi main_v11 main_v13
  let main_c_3 : IVec S_ 32 := constantI S_ 32 128#32
  let main_v15 : IVec S2048 32 := broadcastInDim S2048 ![] bcast_S_S2048 main_c_3
  let main_v16 : IVec S2048 1 := cmpi .sle main_v9 main_v15
  let main_v17 : IVec S2048 1 := andi main_v14 main_v16
  main_v17
-- ==== Pre_routed_within_capacity_ReferenceIdeal.lean ====
abbrev S2048x512 : Shape := ⟨2, ![2048, 512]⟩
abbrev S512x128 : Shape := ⟨2, ![512, 128]⟩
abbrev S2048x1 : Shape := ⟨2, ![2048, 1]⟩
abbrev S128x512x1024 : Shape := ⟨3, ![128, 512, 1024]⟩
abbrev S2048 : Shape := ⟨1, ![2048]⟩
abbrev S_ : Shape := ⟨0, ![]⟩
abbrev S1x2048 : Shape := ⟨2, ![1, 2048]⟩
abbrev S2048x2048 : Shape := ⟨2, ![2048, 2048]⟩

class Facts : Prop where
  shapeCasts_S2048x1_S2048 : S2048x1.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  natLt_1_32 : 1 < 32
  reducesTo_S2048x2048_S2048_d1 : S2048x2048.ReducesTo [1] S2048
  h_S_ : 0 < S_.numel

variable [Facts]

def fn {F : FTy → Type} [FloatOps F] (main_arg0 : FVec F S2048x512 .bf16) (main_arg1 : FVec F S512x128 .bf16) (main_arg2 : IVec S2048x1 32) (main_arg3 : FVec F S128x512x1024 .bf16) : IVec S2048 1 :=
  let main_v0 : IVec S2048 32 := shapeCast S2048 main_arg2 shapeCasts_S2048x1_S2048
  let main_c : IVec S_ 32 := constantI S_ 32 4#32
  let main_v1 : IVec S2048 32 := broadcastInDim S2048 ![] bcast_S_S2048 main_c
  let main_v2 : IVec S2048 32 := Host.divsi main_v0 main_v1
  let main_v3 : IVec S2048x1 32 := broadcastInDim S2048x1 ![0] bcast_S2048_S2048x1_0 main_v2
  let main_v4 : IVec S1x2048 32 := broadcastInDim S1x2048 ![1] bcast_S2048_S1x2048_1 main_v2
  let main_v5 : IVec S2048x2048 32 := broadcastInDim S2048x2048 ![0, 1] bcast_S2048x1_S2048x2048_0_1 main_v3
  let main_v6 : IVec S2048x2048 32 := broadcastInDim S2048x2048 ![0, 1] bcast_S1x2048_S2048x2048_0_1 main_v4
  let main_v7 : IVec S2048x2048 1 := cmpi .eq main_v5 main_v6
  let main_v8 : IVec S2048x2048 32 := (extui 32 · natLt_1_32) main_v7
  let main_c_0 : IVec S_ 32 := constantI S_ 32 0#32
  let main_v9 : IVec S2048 32 := (fun x v => Host.reduce IntOp.addi x v reducesTo_S2048x2048_S2048_d1 h_S_) main_v8 main_c_0
  let main_c_1 : IVec S_ 32 := constantI S_ 32 0#32
  let main_v10 : IVec S2048 32 := broadcastInDim S2048 ![] bcast_S_S2048 main_c_1
  let main_v11 : IVec S2048 1 := cmpi .sge main_v0 main_v10
  let main_c_2 : IVec S_ 32 := constantI S_ 32 128#32
  let main_v12 : IVec S2048 32 := broadcastInDim S2048 ![] bcast_S_S2048 main_c_2
  let main_v13 : IVec S2048 1 := cmpi .slt main_v0 main_v12
  let main_v14 : IVec S2048 1 := andi main_v11 main_v13
  let main_c_3 : IVec S_ 32 := constantI S_ 32 128#32
  let main_v15 : IVec S2048 32 := broadcastInDim S2048 ![] bcast_S_S2048 main_c_3
  let main_v16 : IVec S2048 1 := cmpi .sle main_v9 main_v15
  let main_v17 : IVec S2048 1 := andi main_v14 main_v16
  main_v17
-- ==== Kernel.lean ====
abbrev S2048x512 : Shape := ⟨2, ![2048, 512]⟩
abbrev S512x128 : Shape := ⟨2, ![512, 128]⟩
abbrev S2048x1 : Shape := ⟨2, ![2048, 1]⟩
abbrev S4x512x1024 : Shape := ⟨3, ![4, 512, 1024]⟩
abbrev S2048x1024 : Shape := ⟨2, ![2048, 1024]⟩
abbrev S4096x1024 : Shape := ⟨2, ![4096, 1024]⟩
abbrev S31 : Shape := ⟨1, ![31]⟩
abbrev S_ : Shape := ⟨0, ![]⟩
abbrev S2048x32 : Shape := ⟨2, ![2048, 32]⟩
abbrev S2048x2048 : Shape := ⟨2, ![2048, 2048]⟩
abbrev S2048 : Shape := ⟨1, ![2048]⟩
abbrev S128x2048 : Shape := ⟨2, ![128, 2048]⟩
abbrev S1x2048 : Shape := ⟨2, ![1, 2048]⟩
abbrev S128x512 : Shape := ⟨2, ![128, 512]⟩
abbrev S128x1 : Shape := ⟨2, ![128, 1]⟩
abbrev S128x1024 : Shape := ⟨2, ![128, 1024]⟩
abbrev S1x512x1024 : Shape := ⟨3, ![1, 512, 1024]⟩
abbrev S512x1024 : Shape := ⟨2, ![512, 1024]⟩
abbrev S1 : Shape := ⟨1, ![1]⟩
abbrev S2048x128 : Shape := ⟨2, ![2048, 128]⟩

abbrev nBuf : Space → Nat
  | .hbm => 5
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S512x128, .bf16⟩
  | .hbm, ⟨2, _⟩ => ⟨S2048x1, .i32⟩
  | .hbm, ⟨3, _⟩ => ⟨S4x512x1024, .bf16⟩
  | .hbm, ⟨4, _⟩ => ⟨S2048x1024, .f32⟩
  | .local _ .vmem, ⟨0, _⟩ => ⟨S2048x512, .bf16⟩
  | .local _ .vmem, ⟨1, _⟩ => ⟨S2048x1, .i32⟩
  | .local _ .vmem, ⟨2, _⟩ => ⟨S4x512x1024, .bf16⟩
  | .local _ .vmem, ⟨3, _⟩ => ⟨S2048x1024, .f32⟩
  | .local _ .vmem, ⟨4, _⟩ => ⟨S4096x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v529 : BitVec 32 := Scalar.muli v2 c128_i32
  let v530 : Index := Scalar.indexCast v529
  let c0_316 : Index := 0#32
  ![v530.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_325 : BitVec 32 := 128#32
  let v546 : BitVec 32 := Scalar.muli v2 c128_i32_325
  let c0_i32_330 : BitVec 32 := 0#32
  ![v546.toNat, 0]
def k0_dev32 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_317 : BitVec 32 := 1#32
  let v534 : BitVec 32 := Scalar.addi v2 c1_i32_317
  let c32_i32_318 : BitVec 32 := 32#32
  let c0_i32_319 : BitVec 32 := 0#32
  let v535 : BitVec 1 := Scalar.cmpi .eq c32_i32_318 c0_i32_319
  let c1_i32_320 : BitVec 32 := 1#32
  let v536 : BitVec 32 := Scalar.select v535 c1_i32_320 c32_i32_318
  let v537 : BitVec 32 := Scalar.remsi v534 v536
  let c0_i32_322 : BitVec 32 := 0#32
  let v539 : BitVec 1 := Scalar.cmpi .slt v537 c0_i32_322
  let c0_i32_323 : BitVec 32 := 0#32
  let v540 : BitVec 1 := Scalar.cmpi .slt v536 c0_i32_323
  let v541 : BitVec 1 := Scalar.xori v539 v540
  let c0_i32_321 : BitVec 32 := 0#32
  let v538 : BitVec 1 := Scalar.cmpi .ne v537 c0_i32_321
  let v542 : BitVec 1 := Scalar.andi v541 v538
  let v543 : BitVec 32 := Scalar.addi v537 v536
  let v544 : BitVec 32 := Scalar.select v542 v543 v537
  let c1_i32_328 : BitVec 32 := 1#32
  let v547 : BitVec 32 := Scalar.muli v544 c1_i32_328
  let v548 : BitVec 32 := Scalar.addi c0_i32_329 v547
  v548.toNat
def k0_dev33 (d0 : Dev nD) : Nat :=
  let c0_i32_344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_332 : BitVec 32 := 2#32
  let v555 : BitVec 32 := Scalar.addi v2 c2_i32_332
  let c32_i32_333 : BitVec 32 := 32#32
  let c0_i32_334 : BitVec 32 := 0#32
  let v556 : BitVec 1 := Scalar.cmpi .eq c32_i32_333 c0_i32_334
  let c1_i32_335 : BitVec 32 := 1#32
  let v557 : BitVec 32 := Scalar.select v556 c1_i32_335 c32_i32_333
  let v558 : BitVec 32 := Scalar.remsi v555 v557
  let c0_i32_337 : BitVec 32 := 0#32
  let v560 : BitVec 1 := Scalar.cmpi .slt v558 c0_i32_337
  let c0_i32_338 : BitVec 32 := 0#32
  let v561 : BitVec 1 := Scalar.cmpi .slt v557 c0_i32_338
  let v562 : BitVec 1 := Scalar.xori v560 v561
  let c0_i32_336 : BitVec 32 := 0#32
  let v559 : BitVec 1 := Scalar.cmpi .ne v558 c0_i32_336
  let v563 : BitVec 1 := Scalar.andi v562 v559
  let v564 : BitVec 32 := Scalar.addi v558 v557
  let v565 : BitVec 32 := Scalar.select v563 v564 v558
  let c1_i32_343 : BitVec 32 := 1#32
  let v568 : BitVec 32 := Scalar.muli v565 c1_i32_343
  let v569 : BitVec 32 := Scalar.addi c0_i32_344 v568
  v569.toNat
def k0_dev34 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_347 : BitVec 32 := 3#32
  let v576 : BitVec 32 := Scalar.addi v2 c3_i32_347
  let c32_i32_348 : BitVec 32 := 32#32
  let c0_i32_349 : BitVec 32 := 0#32
  let v577 : BitVec 1 := Scalar.cmpi .eq c32_i32_348 c0_i32_349
  let c1_i32_350 : BitVec 32 := 1#32
  let v578 : BitVec 32 := Scalar.select v577 c1_i32_350 c32_i32_348
  let v579 : BitVec 32 := Scalar.remsi v576 v578
  let c0_i32_352 : BitVec 32 := 0#32
  let v581 : BitVec 1 := Scalar.cmpi .slt v579 c0_i32_352
  let c0_i32_353 : BitVec 32 := 0#32
  let v582 : BitVec 1 := Scalar.cmpi .slt v578 c0_i32_353
  let v583 : BitVec 1 := Scalar.xori v581 v582
  let c0_i32_351 : BitVec 32 := 0#32
  let v580 : BitVec 1 := Scalar.cmpi .ne v579 c0_i32_351
  let v584 : BitVec 1 := Scalar.andi v583 v580
  let v585 : BitVec 32 := Scalar.addi v579 v578
  let v586 : BitVec 32 := Scalar.select v584 v585 v579
  let c1_i32_358 : BitVec 32 := 1#32
  let v589 : BitVec 32 := Scalar.muli v586 c1_i32_358
  let v590 : BitVec 32 := Scalar.addi c0_i32_359 v589
  v590.toNat
def k0_dev35 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_362 : BitVec 32 := 4#32
  let v597 : BitVec 32 := Scalar.addi v2 c4_i32_362
  let c32_i32_363 : BitVec 32 := 32#32
  let c0_i32_364 : BitVec 32 := 0#32
  let v598 : BitVec 1 := Scalar.cmpi .eq c32_i32_363 c0_i32_364
  let c1_i32_365 : BitVec 32 := 1#32
  let v599 : BitVec 32 := Scalar.select v598 c1_i32_365 c32_i32_363
  let v600 : BitVec 32 := Scalar.remsi v597 v599
  let c0_i32_367 : BitVec 32 := 0#32
  let v602 : BitVec 1 := Scalar.cmpi .slt v600 c0_i32_367
  let c0_i32_368 : BitVec 32 := 0#32
  let v603 : BitVec 1 := Scalar.cmpi .slt v599 c0_i32_368
  let v604 : BitVec 1 := Scalar.xori v602 v603
  let c0_i32_366 : BitVec 32 := 0#32
  let v601 : BitVec 1 := Scalar.cmpi .ne v600 c0_i32_366
  let v605 : BitVec 1 := Scalar.andi v604 v601
  let v606 : BitVec 32 := Scalar.addi v600 v599
  let v607 : BitVec 32 := Scalar.select v605 v606 v600
  let c1_i32_373 : BitVec 32 := 1#32
  let v610 : BitVec 32 := Scalar.muli v607 c1_i32_373
  let v611 : BitVec 32 := Scalar.addi c0_i32_374 v610
  v611.toNat
def k0_dev36 (d0 : Dev nD) : Nat :=
  let c0_i32_389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_377 : BitVec 32 := 5#32
  let v618 : BitVec 32 := Scalar.addi v2 c5_i32_377
  let c32_i32_378 : BitVec 32 := 32#32
  let c0_i32_379 : BitVec 32 := 0#32
  let v619 : BitVec 1 := Scalar.cmpi .eq c32_i32_378 c0_i32_379
  let c1_i32_380 : BitVec 32 := 1#32
  let v620 : BitVec 32 := Scalar.select v619 c1_i32_380 c32_i32_378
  let v621 : BitVec 32 := Scalar.remsi v618 v620
  let c0_i32_382 : BitVec 32 := 0#32
  let v623 : BitVec 1 := Scalar.cmpi .slt v621 c0_i32_382
  let c0_i32_383 : BitVec 32 := 0#32
  let v624 : BitVec 1 := Scalar.cmpi .slt v620 c0_i32_383
  let v625 : BitVec 1 := Scalar.xori v623 v624
  let c0_i32_381 : BitVec 32 := 0#32
  let v622 : BitVec 1 := Scalar.cmpi .ne v621 c0_i32_381
  let v626 : BitVec 1 := Scalar.andi v625 v622
  let v627 : BitVec 32 := Scalar.addi v621 v620
  let v628 : BitVec 32 := Scalar.select v626 v627 v621
  let c1_i32_388 : BitVec 32 := 1#32
  let v631 : BitVec 32 := Scalar.muli v628 c1_i32_388
  let v632 : BitVec 32 := Scalar.addi c0_i32_389 v631
  v632.toNat
def k0_dev37 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_392 : BitVec 32 := 6#32
  let v639 : BitVec 32 := Scalar.addi v2 c6_i32_392
  let c32_i32_393 : BitVec 32 := 32#32
  let c0_i32_394 : BitVec 32 := 0#32
  let v640 : BitVec 1 := Scalar.cmpi .eq c32_i32_393 c0_i32_394
  let c1_i32_395 : BitVec 32 := 1#32
  let v641 : BitVec 32 := Scalar.select v640 c1_i32_395 c32_i32_393
  let v642 : BitVec 32 := Scalar.remsi v639 v641
  let c0_i32_397 : BitVec 32 := 0#32
  let v644 : BitVec 1 := Scalar.cmpi .slt v642 c0_i32_397
  let c0_i32_398 : BitVec 32 := 0#32
  let v645 : BitVec 1 := Scalar.cmpi .slt v641 c0_i32_398
  let v646 : BitVec 1 := Scalar.xori v644 v645
  let c0_i32_396 : BitVec 32 := 0#32
  let v643 : BitVec 1 := Scalar.cmpi .ne v642 c0_i32_396
  let v647 : BitVec 1 := Scalar.andi v646 v643
  let v648 : BitVec 32 := Scalar.addi v642 v641
  let v649 : BitVec 32 := Scalar.select v647 v648 v642
  let c1_i32_403 : BitVec 32 := 1#32
  let v652 : BitVec 32 := Scalar.muli v649 c1_i32_403
  let v653 : BitVec 32 := Scalar.addi c0_i32_404 v652
  v653.toNat
def k0_dev38 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_407 : BitVec 32 := 7#32
  let v660 : BitVec 32 := Scalar.addi v2 c7_i32_407
  let c32_i32_408 : BitVec 32 := 32#32
  let c0_i32_409 : BitVec 32 := 0#32
  let v661 : BitVec 1 := Scalar.cmpi .eq c32_i32_408 c0_i32_409
  let c1_i32_410 : BitVec 32 := 1#32
  let v662 : BitVec 32 := Scalar.select v661 c1_i32_410 c32_i32_408
  let v663 : BitVec 32 := Scalar.remsi v660 v662
  let c0_i32_412 : BitVec 32 := 0#32
  let v665 : BitVec 1 := Scalar.cmpi .slt v663 c0_i32_412
  let c0_i32_413 : BitVec 32 := 0#32
  let v666 : BitVec 1 := Scalar.cmpi .slt v662 c0_i32_413
  let v667 : BitVec 1 := Scalar.xori v665 v666
  let c0_i32_411 : BitVec 32 := 0#32
  let v664 : BitVec 1 := Scalar.cmpi .ne v663 c0_i32_411
  let v668 : BitVec 1 := Scalar.andi v667 v664
  let v669 : BitVec 32 := Scalar.addi v663 v662
  let v670 : BitVec 32 := Scalar.select v668 v669 v663
  let c1_i32_418 : BitVec 32 := 1#32
  let v673 : BitVec 32 := Scalar.muli v670 c1_i32_418
  let v674 : BitVec 32 := Scalar.addi c0_i32_419 v673
  v674.toNat
def k0_dev39 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_422 : BitVec 32 := 8#32
  let v681 : BitVec 32 := Scalar.addi v2 c8_i32_422
  let c32_i32_423 : BitVec 32 := 32#32
  let c0_i32_424 : BitVec 32 := 0#32
  let v682 : BitVec 1 := Scalar.cmpi .eq c32_i32_423 c0_i32_424
  let c1_i32_425 : BitVec 32 := 1#32
  let v683 : BitVec 32 := Scalar.select v682 c1_i32_425 c32_i32_423
  let v684 : BitVec 32 := Scalar.remsi v681 v683
  let c0_i32_427 : BitVec 32 := 0#32
  let v686 : BitVec 1 := Scalar.cmpi .slt v684 c0_i32_427
  let c0_i32_428 : BitVec 32 := 0#32
  let v687 : BitVec 1 := Scalar.cmpi .slt v683 c0_i32_428
  let v688 : BitVec 1 := Scalar.xori v686 v687
  let c0_i32_426 : BitVec 32 := 0#32
  let v685 : BitVec 1 := Scalar.cmpi .ne v684 c0_i32_426
  let v689 : BitVec 1 := Scalar.andi v688 v685
  let v690 : BitVec 32 := Scalar.addi v684 v683
  let v691 : BitVec 32 := Scalar.select v689 v690 v684
  let c1_i32_433 : BitVec 32 := 1#32
  let v694 : BitVec 32 := Scalar.muli v691 c1_i32_433
  let v695 : BitVec 32 := Scalar.addi c0_i32_434 v694
  v695.toNat
def k0_dev40 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_437 : BitVec 32 := 9#32
  let v702 : BitVec 32 := Scalar.addi v2 c9_i32_437
  let c32_i32_438 : BitVec 32 := 32#32
  let c0_i32_439 : BitVec 32 := 0#32
  let v703 : BitVec 1 := Scalar.cmpi .eq c32_i32_438 c0_i32_439
  let c1_i32_440 : BitVec 32 := 1#32
  let v704 : BitVec 32 := Scalar.select v703 c1_i32_440 c32_i32_438
  let v705 : BitVec 32 := Scalar.remsi v702 v704
  let c0_i32_442 : BitVec 32 := 0#32
  let v707 : BitVec 1 := Scalar.cmpi .slt v705 c0_i32_442
  let c0_i32_443 : BitVec 32 := 0#32
  let v708 : BitVec 1 := Scalar.cmpi .slt v704 c0_i32_443
  let v709 : BitVec 1 := Scalar.xori v707 v708
  let c0_i32_441 : BitVec 32 := 0#32
  let v706 : BitVec 1 := Scalar.cmpi .ne v705 c0_i32_441
  let v710 : BitVec 1 := Scalar.andi v709 v706
  let v711 : BitVec 32 := Scalar.addi v705 v704
  let v712 : BitVec 32 := Scalar.select v710 v711 v705
  let c1_i32_448 : BitVec 32 := 1#32
  let v715 : BitVec 32 := Scalar.muli v712 c1_i32_448
  let v716 : BitVec 32 := Scalar.addi c0_i32_449 v715
  v716.toNat
def k0_dev41 (d0 : Dev nD) : Nat :=
  let c0_i32_464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_452 : BitVec 32 := 10#32
  let v723 : BitVec 32 := Scalar.addi v2 c10_i32_452
  let c32_i32_453 : BitVec 32 := 32#32
  let c0_i32_454 : BitVec 32 := 0#32
  let v724 : BitVec 1 := Scalar.cmpi .eq c32_i32_453 c0_i32_454
  let c1_i32_455 : BitVec 32 := 1#32
  let v725 : BitVec 32 := Scalar.select v724 c1_i32_455 c32_i32_453
  let v726 : BitVec 32 := Scalar.remsi v723 v725
  let c0_i32_457 : BitVec 32 := 0#32
  let v728 : BitVec 1 := Scalar.cmpi .slt v726 c0_i32_457
  let c0_i32_458 : BitVec 32 := 0#32
  let v729 : BitVec 1 := Scalar.cmpi .slt v725 c0_i32_458
  let v730 : BitVec 1 := Scalar.xori v728 v729
  let c0_i32_456 : BitVec 32 := 0#32
  let v727 : BitVec 1 := Scalar.cmpi .ne v726 c0_i32_456
  let v731 : BitVec 1 := Scalar.andi v730 v727
  let v732 : BitVec 32 := Scalar.addi v726 v725
  let v733 : BitVec 32 := Scalar.select v731 v732 v726
  let c1_i32_463 : BitVec 32 := 1#32
  let v736 : BitVec 32 := Scalar.muli v733 c1_i32_463
  let v737 : BitVec 32 := Scalar.addi c0_i32_464 v736
  v737.toNat
def k0_dev42 (d0 : Dev nD) : Nat :=
  let c0_i32_479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_467 : BitVec 32 := 11#32
  let v744 : BitVec 32 := Scalar.addi v2 c11_i32_467
  let c32_i32_468 : BitVec 32 := 32#32
  let c0_i32_469 : BitVec 32 := 0#32
  let v745 : BitVec 1 := Scalar.cmpi .eq c32_i32_468 c0_i32_469
  let c1_i32_470 : BitVec 32 := 1#32
  let v746 : BitVec 32 := Scalar.select v745 c1_i32_470 c32_i32_468
  let v747 : BitVec 32 := Scalar.remsi v744 v746
  let c0_i32_472 : BitVec 32 := 0#32
  let v749 : BitVec 1 := Scalar.cmpi .slt v747 c0_i32_472
  let c0_i32_473 : BitVec 32 := 0#32
  let v750 : BitVec 1 := Scalar.cmpi .slt v746 c0_i32_473
  let v751 : BitVec 1 := Scalar.xori v749 v750
  let c0_i32_471 : BitVec 32 := 0#32
  let v748 : BitVec 1 := Scalar.cmpi .ne v747 c0_i32_471
  let v752 : BitVec 1 := Scalar.andi v751 v748
  let v753 : BitVec 32 := Scalar.addi v747 v746
  let v754 : BitVec 32 := Scalar.select v752 v753 v747
  let c1_i32_478 : BitVec 32 := 1#32
  let v757 : BitVec 32 := Scalar.muli v754 c1_i32_478
  let v758 : BitVec 32 := Scalar.addi c0_i32_479 v757
  v758.toNat
def k0_dev43 (d0 : Dev nD) : Nat :=
  let c0_i32_494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_482 : BitVec 32 := 12#32
  let v765 : BitVec 32 := Scalar.addi v2 c12_i32_482
  let c32_i32_483 : BitVec 32 := 32#32
  let c0_i32_484 : BitVec 32 := 0#32
  let v766 : BitVec 1 := Scalar.cmpi .eq c32_i32_483 c0_i32_484
  let c1_i32_485 : BitVec 32 := 1#32
  let v767 : BitVec 32 := Scalar.select v766 c1_i32_485 c32_i32_483
  let v768 : BitVec 32 := Scalar.remsi v765 v767
  let c0_i32_487 : BitVec 32 := 0#32
  let v770 : BitVec 1 := Scalar.cmpi .slt v768 c0_i32_487
  let c0_i32_488 : BitVec 32 := 0#32
  let v771 : BitVec 1 := Scalar.cmpi .slt v767 c0_i32_488
  let v772 : BitVec 1 := Scalar.xori v770 v771
  let c0_i32_486 : BitVec 32 := 0#32
  let v769 : BitVec 1 := Scalar.cmpi .ne v768 c0_i32_486
  let v773 : BitVec 1 := Scalar.andi v772 v769
  let v774 : BitVec 32 := Scalar.addi v768 v767
  let v775 : BitVec 32 := Scalar.select v773 v774 v768
  let c1_i32_493 : BitVec 32 := 1#32
  let v778 : BitVec 32 := Scalar.muli v775 c1_i32_493
  let v779 : BitVec 32 := Scalar.addi c0_i32_494 v778
  v779.toNat
def k0_dev44 (d0 : Dev nD) : Nat :=
  let c0_i32_509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_497 : BitVec 32 := 13#32
  let v786 : BitVec 32 := Scalar.addi v2 c13_i32_497
  let c32_i32_498 : BitVec 32 := 32#32
  let c0_i32_499 : BitVec 32 := 0#32
  let v787 : BitVec 1 := Scalar.cmpi .eq c32_i32_498 c0_i32_499
  let c1_i32_500 : BitVec 32 := 1#32
  let v788 : BitVec 32 := Scalar.select v787 c1_i32_500 c32_i32_498
  let v789 : BitVec 32 := Scalar.remsi v786 v788
  let c0_i32_502 : BitVec 32 := 0#32
  let v791 : BitVec 1 := Scalar.cmpi .slt v789 c0_i32_502
  let c0_i32_503 : BitVec 32 := 0#32
  let v792 : BitVec 1 := Scalar.cmpi .slt v788 c0_i32_503
  let v793 : BitVec 1 := Scalar.xori v791 v792
  let c0_i32_501 : BitVec 32 := 0#32
  let v790 : BitVec 1 := Scalar.cmpi .ne v789 c0_i32_501
  let v794 : BitVec 1 := Scalar.andi v793 v790
  let v795 : BitVec 32 := Scalar.addi v789 v788
  let v796 : BitVec 32 := Scalar.select v794 v795 v789
  let c1_i32_508 : BitVec 32 := 1#32
  let v799 : BitVec 32 := Scalar.muli v796 c1_i32_508
  let v800 : BitVec 32 := Scalar.addi c0_i32_509 v799
  v800.toNat
def k0_dev45 (d0 : Dev nD) : Nat :=
  let c0_i32_524 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_512 : BitVec 32 := 14#32
  let v807 : BitVec 32 := Scalar.addi v2 c14_i32_512
  let c32_i32_513 : BitVec 32 := 32#32
  let c0_i32_514 : BitVec 32 := 0#32
  let v808 : BitVec 1 := Scalar.cmpi .eq c32_i32_513 c0_i32_514
  let c1_i32_515 : BitVec 32 := 1#32
  let v809 : BitVec 32 := Scalar.select v808 c1_i32_515 c32_i32_513
  let v810 : BitVec 32 := Scalar.remsi v807 v809
  let c0_i32_517 : BitVec 32 := 0#32
  let v812 : BitVec 1 := Scalar.cmpi .slt v810 c0_i32_517
  let c0_i32_518 : BitVec 32 := 0#32
  let v813 : BitVec 1 := Scalar.cmpi .slt v809 c0_i32_518
  let v814 : BitVec 1 := Scalar.xori v812 v813
  let c0_i32_516 : BitVec 32 := 0#32
  let v811 : BitVec 1 := Scalar.cmpi .ne v810 c0_i32_516
  let v815 : BitVec 1 := Scalar.andi v814 v811
  let v816 : BitVec 32 := Scalar.addi v810 v809
  let v817 : BitVec 32 := Scalar.select v815 v816 v810
  let c1_i32_523 : BitVec 32 := 1#32
  let v820 : BitVec 32 := Scalar.muli v817 c1_i32_523
  let v821 : BitVec 32 := Scalar.addi c0_i32_524 v820
  v821.toNat
def k0_dev46 (d0 : Dev nD) : Nat :=
  let c0_i32_539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_527 : BitVec 32 := 15#32
  let v828 : BitVec 32 := Scalar.addi v2 c15_i32_527
  let c32_i32_528 : BitVec 32 := 32#32
  let c0_i32_529 : BitVec 32 := 0#32
  let v829 : BitVec 1 := Scalar.cmpi .eq c32_i32_528 c0_i32_529
  let c1_i32_530 : BitVec 32 := 1#32
  let v830 : BitVec 32 := Scalar.select v829 c1_i32_530 c32_i32_528
  let v831 : BitVec 32 := Scalar.remsi v828 v830
  let c0_i32_532 : BitVec 32 := 0#32
  let v833 : BitVec 1 := Scalar.cmpi .slt v831 c0_i32_532
  let c0_i32_533 : BitVec 32 := 0#32
  let v834 : BitVec 1 := Scalar.cmpi .slt v830 c0_i32_533
  let v835 : BitVec 1 := Scalar.xori v833 v834
  let c0_i32_531 : BitVec 32 := 0#32
  let v832 : BitVec 1 := Scalar.cmpi .ne v831 c0_i32_531
  let v836 : BitVec 1 := Scalar.andi v835 v832
  let v837 : BitVec 32 := Scalar.addi v831 v830
  let v838 : BitVec 32 := Scalar.select v836 v837 v831
  let c1_i32_538 : BitVec 32 := 1#32
  let v841 : BitVec 32 := Scalar.muli v838 c1_i32_538
  let v842 : BitVec 32 := Scalar.addi c0_i32_539 v841
  v842.toNat
def k0_dev47 (d0 : Dev nD) : Nat :=
  let c0_i32_554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_542 : BitVec 32 := 16#32
  let v849 : BitVec 32 := Scalar.addi v2 c16_i32_542
  let c32_i32_543 : BitVec 32 := 32#32
  let c0_i32_544 : BitVec 32 := 0#32
  let v850 : BitVec 1 := Scalar.cmpi .eq c32_i32_543 c0_i32_544
  let c1_i32_545 : BitVec 32 := 1#32
  let v851 : BitVec 32 := Scalar.select v850 c1_i32_545 c32_i32_543
  let v852 : BitVec 32 := Scalar.remsi v849 v851
  let c0_i32_547 : BitVec 32 := 0#32
  let v854 : BitVec 1 := Scalar.cmpi .slt v852 c0_i32_547
  let c0_i32_548 : BitVec 32 := 0#32
  let v855 : BitVec 1 := Scalar.cmpi .slt v851 c0_i32_548
  let v856 : BitVec 1 := Scalar.xori v854 v855
  let c0_i32_546 : BitVec 32 := 0#32
  let v853 : BitVec 1 := Scalar.cmpi .ne v852 c0_i32_546
  let v857 : BitVec 1 := Scalar.andi v856 v853
  let v858 : BitVec 32 := Scalar.addi v852 v851
  let v859 : BitVec 32 := Scalar.select v857 v858 v852
  let c1_i32_553 : BitVec 32 := 1#32
  let v862 : BitVec 32 := Scalar.muli v859 c1_i32_553
  let v863 : BitVec 32 := Scalar.addi c0_i32_554 v862
  v863.toNat
def k0_dev48 (d0 : Dev nD) : Nat :=
  let c0_i32_569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_557 : BitVec 32 := 17#32
  let v870 : BitVec 32 := Scalar.addi v2 c17_i32_557
  let c32_i32_558 : BitVec 32 := 32#32
  let c0_i32_559 : BitVec 32 := 0#32
  let v871 : BitVec 1 := Scalar.cmpi .eq c32_i32_558 c0_i32_559
  let c1_i32_560 : BitVec 32 := 1#32
  let v872 : BitVec 32 := Scalar.select v871 c1_i32_560 c32_i32_558
  let v873 : BitVec 32 := Scalar.remsi v870 v872
  let c0_i32_562 : BitVec 32 := 0#32
  let v875 : BitVec 1 := Scalar.cmpi .slt v873 c0_i32_562
  let c0_i32_563 : BitVec 32 := 0#32
  let v876 : BitVec 1 := Scalar.cmpi .slt v872 c0_i32_563
  let v877 : BitVec 1 := Scalar.xori v875 v876
  let c0_i32_561 : BitVec 32 := 0#32
  let v874 : BitVec 1 := Scalar.cmpi .ne v873 c0_i32_561
  let v878 : BitVec 1 := Scalar.andi v877 v874
  let v879 : BitVec 32 := Scalar.addi v873 v872
  let v880 : BitVec 32 := Scalar.select v878 v879 v873
  let c1_i32_568 : BitVec 32 := 1#32
  let v883 : BitVec 32 := Scalar.muli v880 c1_i32_568
  let v884 : BitVec 32 := Scalar.addi c0_i32_569 v883
  v884.toNat
def k0_dev49 (d0 : Dev nD) : Nat :=
  let c0_i32_584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_572 : BitVec 32 := 18#32
  let v891 : BitVec 32 := Scalar.addi v2 c18_i32_572
  let c32_i32_573 : BitVec 32 := 32#32
  let c0_i32_574 : BitVec 32 := 0#32
  let v892 : BitVec 1 := Scalar.cmpi .eq c32_i32_573 c0_i32_574
  let c1_i32_575 : BitVec 32 := 1#32
  let v893 : BitVec 32 := Scalar.select v892 c1_i32_575 c32_i32_573
  let v894 : BitVec 32 := Scalar.remsi v891 v893
  let c0_i32_577 : BitVec 32 := 0#32
  let v896 : BitVec 1 := Scalar.cmpi .slt v894 c0_i32_577
  let c0_i32_578 : BitVec 32 := 0#32
  let v897 : BitVec 1 := Scalar.cmpi .slt v893 c0_i32_578
  let v898 : BitVec 1 := Scalar.xori v896 v897
  let c0_i32_576 : BitVec 32 := 0#32
  let v895 : BitVec 1 := Scalar.cmpi .ne v894 c0_i32_576
  let v899 : BitVec 1 := Scalar.andi v898 v895
  let v900 : BitVec 32 := Scalar.addi v894 v893
  let v901 : BitVec 32 := Scalar.select v899 v900 v894
  let c1_i32_583 : BitVec 32 := 1#32
  let v904 : BitVec 32 := Scalar.muli v901 c1_i32_583
  let v905 : BitVec 32 := Scalar.addi c0_i32_584 v904
  v905.toNat
def k0_dev50 (d0 : Dev nD) : Nat :=
  let c0_i32_599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_587 : BitVec 32 := 19#32
  let v912 : BitVec 32 := Scalar.addi v2 c19_i32_587
  let c32_i32_588 : BitVec 32 := 32#32
  let c0_i32_589 : BitVec 32 := 0#32
  let v913 : BitVec 1 := Scalar.cmpi .eq c32_i32_588 c0_i32_589
  let c1_i32_590 : BitVec 32 := 1#32
  let v914 : BitVec 32 := Scalar.select v913 c1_i32_590 c32_i32_588
  let v915 : BitVec 32 := Scalar.remsi v912 v914
  let c0_i32_592 : BitVec 32 := 0#32
  let v917 : BitVec 1 := Scalar.cmpi .slt v915 c0_i32_592
  let c0_i32_593 : BitVec 32 := 0#32
  let v918 : BitVec 1 := Scalar.cmpi .slt v914 c0_i32_593
  let v919 : BitVec 1 := Scalar.xori v917 v918
  let c0_i32_591 : BitVec 32 := 0#32
  let v916 : BitVec 1 := Scalar.cmpi .ne v915 c0_i32_591
  let v920 : BitVec 1 := Scalar.andi v919 v916
  let v921 : BitVec 32 := Scalar.addi v915 v914
  let v922 : BitVec 32 := Scalar.select v920 v921 v915
  let c1_i32_598 : BitVec 32 := 1#32
  let v925 : BitVec 32 := Scalar.muli v922 c1_i32_598
  let v926 : BitVec 32 := Scalar.addi c0_i32_599 v925
  v926.toNat
def k0_dev51 (d0 : Dev nD) : Nat :=
  let c0_i32_614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_602 : BitVec 32 := 20#32
  let v933 : BitVec 32 := Scalar.addi v2 c20_i32_602
  let c32_i32_603 : BitVec 32 := 32#32
  let c0_i32_604 : BitVec 32 := 0#32
  let v934 : BitVec 1 := Scalar.cmpi .eq c32_i32_603 c0_i32_604
  let c1_i32_605 : BitVec 32 := 1#32
  let v935 : BitVec 32 := Scalar.select v934 c1_i32_605 c32_i32_603
  let v936 : BitVec 32 := Scalar.remsi v933 v935
  let c0_i32_607 : BitVec 32 := 0#32
  let v938 : BitVec 1 := Scalar.cmpi .slt v936 c0_i32_607
  let c0_i32_608 : BitVec 32 := 0#32
  let v939 : BitVec 1 := Scalar.cmpi .slt v935 c0_i32_608
  let v940 : BitVec 1 := Scalar.xori v938 v939
  let c0_i32_606 : BitVec 32 := 0#32
  let v937 : BitVec 1 := Scalar.cmpi .ne v936 c0_i32_606
  let v941 : BitVec 1 := Scalar.andi v940 v937
  let v942 : BitVec 32 := Scalar.addi v936 v935
  let v943 : BitVec 32 := Scalar.select v941 v942 v936
  let c1_i32_613 : BitVec 32 := 1#32
  let v946 : BitVec 32 := Scalar.muli v943 c1_i32_613
  let v947 : BitVec 32 := Scalar.addi c0_i32_614 v946
  v947.toNat
def k0_dev52 (d0 : Dev nD) : Nat :=
  let c0_i32_629 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_617 : BitVec 32 := 21#32
  let v954 : BitVec 32 := Scalar.addi v2 c21_i32_617
  let c32_i32_618 : BitVec 32 := 32#32
  let c0_i32_619 : BitVec 32 := 0#32
  let v955 : BitVec 1 := Scalar.cmpi .eq c32_i32_618 c0_i32_619
  let c1_i32_620 : BitVec 32 := 1#32
  let v956 : BitVec 32 := Scalar.select v955 c1_i32_620 c32_i32_618
  let v957 : BitVec 32 := Scalar.remsi v954 v956
  let c0_i32_622 : BitVec 32 := 0#32
  let v959 : BitVec 1 := Scalar.cmpi .slt v957 c0_i32_622
  let c0_i32_623 : BitVec 32 := 0#32
  let v960 : BitVec 1 := Scalar.cmpi .slt v956 c0_i32_623
  let v961 : BitVec 1 := Scalar.xori v959 v960
  let c0_i32_621 : BitVec 32 := 0#32
  let v958 : BitVec 1 := Scalar.cmpi .ne v957 c0_i32_621
  let v962 : BitVec 1 := Scalar.andi v961 v958
  let v963 : BitVec 32 := Scalar.addi v957 v956
  let v964 : BitVec 32 := Scalar.select v962 v963 v957
  let c1_i32_628 : BitVec 32 := 1#32
  let v967 : BitVec 32 := Scalar.muli v964 c1_i32_628
  let v968 : BitVec 32 := Scalar.addi c0_i32_629 v967
  v968.toNat
def k0_dev53 (d0 : Dev nD) : Nat :=
  let c0_i32_644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_632 : BitVec 32 := 22#32
  let v975 : BitVec 32 := Scalar.addi v2 c22_i32_632
  let c32_i32_633 : BitVec 32 := 32#32
  let c0_i32_634 : BitVec 32 := 0#32
  let v976 : BitVec 1 := Scalar.cmpi .eq c32_i32_633 c0_i32_634
  let c1_i32_635 : BitVec 32 := 1#32
  let v977 : BitVec 32 := Scalar.select v976 c1_i32_635 c32_i32_633
  let v978 : BitVec 32 := Scalar.remsi v975 v977
  let c0_i32_637 : BitVec 32 := 0#32
  let v980 : BitVec 1 := Scalar.cmpi .slt v978 c0_i32_637
  let c0_i32_638 : BitVec 32 := 0#32
  let v981 : BitVec 1 := Scalar.cmpi .slt v977 c0_i32_638
  let v982 : BitVec 1 := Scalar.xori v980 v981
  let c0_i32_636 : BitVec 32 := 0#32
  let v979 : BitVec 1 := Scalar.cmpi .ne v978 c0_i32_636
  let v983 : BitVec 1 := Scalar.andi v982 v979
  let v984 : BitVec 32 := Scalar.addi v978 v977
  let v985 : BitVec 32 := Scalar.select v983 v984 v978
  let c1_i32_643 : BitVec 32 := 1#32
  let v988 : BitVec 32 := Scalar.muli v985 c1_i32_643
  let v989 : BitVec 32 := Scalar.addi c0_i32_644 v988
  v989.toNat
def k0_dev54 (d0 : Dev nD) : Nat :=
  let c0_i32_659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_647 : BitVec 32 := 23#32
  let v996 : BitVec 32 := Scalar.addi v2 c23_i32_647
  let c32_i32_648 : BitVec 32 := 32#32
  let c0_i32_649 : BitVec 32 := 0#32
  let v997 : BitVec 1 := Scalar.cmpi .eq c32_i32_648 c0_i32_649
  let c1_i32_650 : BitVec 32 := 1#32
  let v998 : BitVec 32 := Scalar.select v997 c1_i32_650 c32_i32_648
  let v999 : BitVec 32 := Scalar.remsi v996 v998
  let c0_i32_652 : BitVec 32 := 0#32
  let v1001 : BitVec 1 := Scalar.cmpi .slt v999 c0_i32_652
  let c0_i32_653 : BitVec 32 := 0#32
  let v1002 : BitVec 1 := Scalar.cmpi .slt v998 c0_i32_653
  let v1003 : BitVec 1 := Scalar.xori v1001 v1002
  let c0_i32_651 : BitVec 32 := 0#32
  let v1000 : BitVec 1 := Scalar.cmpi .ne v999 c0_i32_651
  let v1004 : BitVec 1 := Scalar.andi v1003 v1000
  let v1005 : BitVec 32 := Scalar.addi v999 v998
  let v1006 : BitVec 32 := Scalar.select v1004 v1005 v999
  let c1_i32_658 : BitVec 32 := 1#32
  let v1009 : BitVec 32 := Scalar.muli v1006 c1_i32_658
  let v1010 : BitVec 32 := Scalar.addi c0_i32_659 v1009
  v1010.toNat
def k0_dev55 (d0 : Dev nD) : Nat :=
  let c0_i32_674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_662 : BitVec 32 := 24#32
  let v1017 : BitVec 32 := Scalar.addi v2 c24_i32_662
  let c32_i32_663 : BitVec 32 := 32#32
  let c0_i32_664 : BitVec 32 := 0#32
  let v1018 : BitVec 1 := Scalar.cmpi .eq c32_i32_663 c0_i32_664
  let c1_i32_665 : BitVec 32 := 1#32
  let v1019 : BitVec 32 := Scalar.select v1018 c1_i32_665 c32_i32_663
  let v1020 : BitVec 32 := Scalar.remsi v1017 v1019
  let c0_i32_667 : BitVec 32 := 0#32
  let v1022 : BitVec 1 := Scalar.cmpi .slt v1020 c0_i32_667
  let c0_i32_668 : BitVec 32 := 0#32
  let v1023 : BitVec 1 := Scalar.cmpi .slt v1019 c0_i32_668
  let v1024 : BitVec 1 := Scalar.xori v1022 v1023
  let c0_i32_666 : BitVec 32 := 0#32
  let v1021 : BitVec 1 := Scalar.cmpi .ne v1020 c0_i32_666
  let v1025 : BitVec 1 := Scalar.andi v1024 v1021
  let v1026 : BitVec 32 := Scalar.addi v1020 v1019
  let v1027 : BitVec 32 := Scalar.select v1025 v1026 v1020
  let c1_i32_673 : BitVec 32 := 1#32
  let v1030 : BitVec 32 := Scalar.muli v1027 c1_i32_673
  let v1031 : BitVec 32 := Scalar.addi c0_i32_674 v1030
  v1031.toNat
def k0_dev56 (d0 : Dev nD) : Nat :=
  let c0_i32_689 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_677 : BitVec 32 := 25#32
  let v1038 : BitVec 32 := Scalar.addi v2 c25_i32_677
  let c32_i32_678 : BitVec 32 := 32#32
  let c0_i32_679 : BitVec 32 := 0#32
  let v1039 : BitVec 1 := Scalar.cmpi .eq c32_i32_678 c0_i32_679
  let c1_i32_680 : BitVec 32 := 1#32
  let v1040 : BitVec 32 := Scalar.select v1039 c1_i32_680 c32_i32_678
  let v1041 : BitVec 32 := Scalar.remsi v1038 v1040
  let c0_i32_682 : BitVec 32 := 0#32
  let v1043 : BitVec 1 := Scalar.cmpi .slt v1041 c0_i32_682
  let c0_i32_683 : BitVec 32 := 0#32
  let v1044 : BitVec 1 := Scalar.cmpi .slt v1040 c0_i32_683
  let v1045 : BitVec 1 := Scalar.xori v1043 v1044
  let c0_i32_681 : BitVec 32 := 0#32
  let v1042 : BitVec 1 := Scalar.cmpi .ne v1041 c0_i32_681
  let v1046 : BitVec 1 := Scalar.andi v1045 v1042
  let v1047 : BitVec 32 := Scalar.addi v1041 v1040
  let v1048 : BitVec 32 := Scalar.select v1046 v1047 v1041
  let c1_i32_688 : BitVec 32 := 1#32
  let v1051 : BitVec 32 := Scalar.muli v1048 c1_i32_688
  let v1052 : BitVec 32 := Scalar.addi c0_i32_689 v1051
  v1052.toNat
def k0_dev57 (d0 : Dev nD) : Nat :=
  let c0_i32_704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_692 : BitVec 32 := 26#32
  let v1059 : BitVec 32 := Scalar.addi v2 c26_i32_692
  let c32_i32_693 : BitVec 32 := 32#32
  let c0_i32_694 : BitVec 32 := 0#32
  let v1060 : BitVec 1 := Scalar.cmpi .eq c32_i32_693 c0_i32_694
  let c1_i32_695 : BitVec 32 := 1#32
  let v1061 : BitVec 32 := Scalar.select v1060 c1_i32_695 c32_i32_693
  let v1062 : BitVec 32 := Scalar.remsi v1059 v1061
  let c0_i32_697 : BitVec 32 := 0#32
  let v1064 : BitVec 1 := Scalar.cmpi .slt v1062 c0_i32_697
  let c0_i32_698 : BitVec 32 := 0#32
  let v1065 : BitVec 1 := Scalar.cmpi .slt v1061 c0_i32_698
  let v1066 : BitVec 1 := Scalar.xori v1064 v1065
  let c0_i32_696 : BitVec 32 := 0#32
  let v1063 : BitVec 1 := Scalar.cmpi .ne v1062 c0_i32_696
  let v1067 : BitVec 1 := Scalar.andi v1066 v1063
  let v1068 : BitVec 32 := Scalar.addi v1062 v1061
  let v1069 : BitVec 32 := Scalar.select v1067 v1068 v1062
  let c1_i32_703 : BitVec 32 := 1#32
  let v1072 : BitVec 32 := Scalar.muli v1069 c1_i32_703
  let v1073 : BitVec 32 := Scalar.addi c0_i32_704 v1072
  v1073.toNat
def k0_dev58 (d0 : Dev nD) : Nat :=
  let c0_i32_719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_707 : BitVec 32 := 27#32
  let v1080 : BitVec 32 := Scalar.addi v2 c27_i32_707
  let c32_i32_708 : BitVec 32 := 32#32
  let c0_i32_709 : BitVec 32 := 0#32
  let v1081 : BitVec 1 := Scalar.cmpi .eq c32_i32_708 c0_i32_709
  let c1_i32_710 : BitVec 32 := 1#32
  let v1082 : BitVec 32 := Scalar.select v1081 c1_i32_710 c32_i32_708
  let v1083 : BitVec 32 := Scalar.remsi v1080 v1082
  let c0_i32_712 : BitVec 32 := 0#32
  let v1085 : BitVec 1 := Scalar.cmpi .slt v1083 c0_i32_712
  let c0_i32_713 : BitVec 32 := 0#32
  let v1086 : BitVec 1 := Scalar.cmpi .slt v1082 c0_i32_713
  let v1087 : BitVec 1 := Scalar.xori v1085 v1086
  let c0_i32_711 : BitVec 32 := 0#32
  let v1084 : BitVec 1 := Scalar.cmpi .ne v1083 c0_i32_711
  let v1088 : BitVec 1 := Scalar.andi v1087 v1084
  let v1089 : BitVec 32 := Scalar.addi v1083 v1082
  let v1090 : BitVec 32 := Scalar.select v1088 v1089 v1083
  let c1_i32_718 : BitVec 32 := 1#32
  let v1093 : BitVec 32 := Scalar.muli v1090 c1_i32_718
  let v1094 : BitVec 32 := Scalar.addi c0_i32_719 v1093
  v1094.toNat
def k0_dev59 (d0 : Dev nD) : Nat :=
  let c0_i32_734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_722 : BitVec 32 := 28#32
  let v1101 : BitVec 32 := Scalar.addi v2 c28_i32_722
  let c32_i32_723 : BitVec 32 := 32#32
  let c0_i32_724 : BitVec 32 := 0#32
  let v1102 : BitVec 1 := Scalar.cmpi .eq c32_i32_723 c0_i32_724
  let c1_i32_725 : BitVec 32 := 1#32
  let v1103 : BitVec 32 := Scalar.select v1102 c1_i32_725 c32_i32_723
  let v1104 : BitVec 32 := Scalar.remsi v1101 v1103
  let c0_i32_727 : BitVec 32 := 0#32
  let v1106 : BitVec 1 := Scalar.cmpi .slt v1104 c0_i32_727
  let c0_i32_728 : BitVec 32 := 0#32
  let v1107 : BitVec 1 := Scalar.cmpi .slt v1103 c0_i32_728
  let v1108 : BitVec 1 := Scalar.xori v1106 v1107
  let c0_i32_726 : BitVec 32 := 0#32
  let v1105 : BitVec 1 := Scalar.cmpi .ne v1104 c0_i32_726
  let v1109 : BitVec 1 := Scalar.andi v1108 v1105
  let v1110 : BitVec 32 := Scalar.addi v1104 v1103
  let v1111 : BitVec 32 := Scalar.select v1109 v1110 v1104
  let c1_i32_733 : BitVec 32 := 1#32
  let v1114 : BitVec 32 := Scalar.muli v1111 c1_i32_733
  let v1115 : BitVec 32 := Scalar.addi c0_i32_734 v1114
  v1115.toNat
def k0_dev60 (d0 : Dev nD) : Nat :=
  let c0_i32_749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_737 : BitVec 32 := 29#32
  let v1122 : BitVec 32 := Scalar.addi v2 c29_i32_737
  let c32_i32_738 : BitVec 32 := 32#32
  let c0_i32_739 : BitVec 32 := 0#32
  let v1123 : BitVec 1 := Scalar.cmpi .eq c32_i32_738 c0_i32_739
  let c1_i32_740 : BitVec 32 := 1#32
  let v1124 : BitVec 32 := Scalar.select v1123 c1_i32_740 c32_i32_738
  let v1125 : BitVec 32 := Scalar.remsi v1122 v1124
  let c0_i32_742 : BitVec 32 := 0#32
  let v1127 : BitVec 1 := Scalar.cmpi .slt v1125 c0_i32_742
  let c0_i32_743 : BitVec 32 := 0#32
  let v1128 : BitVec 1 := Scalar.cmpi .slt v1124 c0_i32_743
  let v1129 : BitVec 1 := Scalar.xori v1127 v1128
  let c0_i32_741 : BitVec 32 := 0#32
  let v1126 : BitVec 1 := Scalar.cmpi .ne v1125 c0_i32_741
  let v1130 : BitVec 1 := Scalar.andi v1129 v1126
  let v1131 : BitVec 32 := Scalar.addi v1125 v1124
  let v1132 : BitVec 32 := Scalar.select v1130 v1131 v1125
  let c1_i32_748 : BitVec 32 := 1#32
  let v1135 : BitVec 32 := Scalar.muli v1132 c1_i32_748
  let v1136 : BitVec 32 := Scalar.addi c0_i32_749 v1135
  v1136.toNat
def k0_dev61 (d0 : Dev nD) : Nat :=
  let c0_i32_764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_752 : BitVec 32 := 30#32
  let v1143 : BitVec 32 := Scalar.addi v2 c30_i32_752
  let c32_i32_753 : BitVec 32 := 32#32
  let c0_i32_754 : BitVec 32 := 0#32
  let v1144 : BitVec 1 := Scalar.cmpi .eq c32_i32_753 c0_i32_754
  let c1_i32_755 : BitVec 32 := 1#32
  let v1145 : BitVec 32 := Scalar.select v1144 c1_i32_755 c32_i32_753
  let v1146 : BitVec 32 := Scalar.remsi v1143 v1145
  let c0_i32_757 : BitVec 32 := 0#32
  let v1148 : BitVec 1 := Scalar.cmpi .slt v1146 c0_i32_757
  let c0_i32_758 : BitVec 32 := 0#32
  let v1149 : BitVec 1 := Scalar.cmpi .slt v1145 c0_i32_758
  let v1150 : BitVec 1 := Scalar.xori v1148 v1149
  let c0_i32_756 : BitVec 32 := 0#32
  let v1147 : BitVec 1 := Scalar.cmpi .ne v1146 c0_i32_756
  let v1151 : BitVec 1 := Scalar.andi v1150 v1147
  let v1152 : BitVec 32 := Scalar.addi v1146 v1145
  let v1153 : BitVec 32 := Scalar.select v1151 v1152 v1146
  let c1_i32_763 : BitVec 32 := 1#32
  let v1156 : BitVec 32 := Scalar.muli v1153 c1_i32_763
  let v1157 : BitVec 32 := Scalar.addi c0_i32_764 v1156
  v1157.toNat
def k0_dev62 (d0 : Dev nD) : Nat :=
  let c0_i32_779 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_767 : BitVec 32 := 31#32
  let v1164 : BitVec 32 := Scalar.addi v2 c31_i32_767
  let c32_i32_768 : BitVec 32 := 32#32
  let c0_i32_769 : BitVec 32 := 0#32
  let v1165 : BitVec 1 := Scalar.cmpi .eq c32_i32_768 c0_i32_769
  let c1_i32_770 : BitVec 32 := 1#32
  let v1166 : BitVec 32 := Scalar.select v1165 c1_i32_770 c32_i32_768
  let v1167 : BitVec 32 := Scalar.remsi v1164 v1166
  let c0_i32_772 : BitVec 32 := 0#32
  let v1169 : BitVec 1 := Scalar.cmpi .slt v1167 c0_i32_772
  let c0_i32_773 : BitVec 32 := 0#32
  let v1170 : BitVec 1 := Scalar.cmpi .slt v1166 c0_i32_773
  let v1171 : BitVec 1 := Scalar.xori v1169 v1170
  let c0_i32_771 : BitVec 32 := 0#32
  let v1168 : BitVec 1 := Scalar.cmpi .ne v1167 c0_i32_771
  let v1172 : BitVec 1 := Scalar.andi v1171 v1168
  let v1173 : BitVec 32 := Scalar.addi v1167 v1166
  let v1174 : BitVec 32 := Scalar.select v1172 v1173 v1167
  let c1_i32_778 : BitVec 32 := 1#32
  let v1177 : BitVec 32 := Scalar.muli v1174 c1_i32_778
  let v1178 : BitVec 32 := Scalar.addi c0_i32_779 v1177
  v1178.toNat
def k0_off3 (d0 : Dev nD) (c1_i32_794 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_793 : BitVec 32 := 32#32
  let v1206 : BitVec 32 := Scalar.addi v2 c32_i32_793
  let v1207 : BitVec 32 := Scalar.subi v1206 c1_i32_794
  let c32_i32_795 : BitVec 32 := 32#32
  let c0_i32_796 : BitVec 32 := 0#32
  let v1208 : BitVec 1 := Scalar.cmpi .eq c32_i32_795 c0_i32_796
  let c1_i32_797 : BitVec 32 := 1#32
  let v1209 : BitVec 32 := Scalar.select v1208 c1_i32_797 c32_i32_795
  let v1210 : BitVec 32 := Scalar.remsi v1207 v1209
  let c0_i32_799 : BitVec 32 := 0#32
  let v1212 : BitVec 1 := Scalar.cmpi .slt v1210 c0_i32_799
  let c0_i32_800 : BitVec 32 := 0#32
  let v1213 : BitVec 1 := Scalar.cmpi .slt v1209 c0_i32_800
  let v1214 : BitVec 1 := Scalar.xori v1212 v1213
  let c0_i32_798 : BitVec 32 := 0#32
  let v1211 : BitVec 1 := Scalar.cmpi .ne v1210 c0_i32_798
  let v1215 : BitVec 1 := Scalar.andi v1214 v1211
  let v1216 : BitVec 32 := Scalar.addi v1210 v1209
  let v1217 : BitVec 32 := Scalar.select v1215 v1216 v1210
  let c128_i32_802 : BitVec 32 := 128#32
  let v1219 : BitVec 32 := Scalar.muli v1217 c128_i32_802
  let c0_i32_807 : BitVec 32 := 0#32
  ![v1219.toNat, 0]
def k0_off4 (d0 : Dev nD) (c1_i32_794 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_793 : BitVec 32 := 32#32
  let v1206 : BitVec 32 := Scalar.addi v2 c32_i32_793
  let v1207 : BitVec 32 := Scalar.subi v1206 c1_i32_794
  let c32_i32_795 : BitVec 32 := 32#32
  let c0_i32_796 : BitVec 32 := 0#32
  let v1208 : BitVec 1 := Scalar.cmpi .eq c32_i32_795 c0_i32_796
  let c1_i32_797 : BitVec 32 := 1#32
  let v1209 : BitVec 32 := Scalar.select v1208 c1_i32_797 c32_i32_795
  let v1210 : BitVec 32 := Scalar.remsi v1207 v1209
  let c0_i32_799 : BitVec 32 := 0#32
  let v1212 : BitVec 1 := Scalar.cmpi .slt v1210 c0_i32_799
  let c0_i32_800 : BitVec 32 := 0#32
  let v1213 : BitVec 1 := Scalar.cmpi .slt v1209 c0_i32_800
  let v1214 : BitVec 1 := Scalar.xori v1212 v1213
  let c0_i32_798 : BitVec 32 := 0#32
  let v1211 : BitVec 1 := Scalar.cmpi .ne v1210 c0_i32_798
  let v1215 : BitVec 1 := Scalar.andi v1214 v1211
  let v1216 : BitVec 32 := Scalar.addi v1210 v1209
  let v1217 : BitVec 32 := Scalar.select v1215 v1216 v1210
  let c128_i32_810 : BitVec 32 := 128#32
  let v1235 : BitVec 32 := Scalar.muli v1217 c128_i32_810
  let v1236 : Index := Scalar.indexCast v1235
  let c0_811 : Index := 0#32
  ![v1236.toNat, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x512 : Shape := ⟨2, ![2048, 512]⟩
abbrev S512x128 : Shape := ⟨2, ![512, 128]⟩
abbrev S2048x1 : Shape := ⟨2, ![2048, 1]⟩
abbrev S128x512x1024 : Shape := ⟨3, ![128, 512, 1024]⟩
abbrev S2048 : Shape := ⟨1, ![2048]⟩
abbrev S_ : Shape := ⟨0, ![]⟩
abbrev S2048x512x1024 : Shape := ⟨3, ![2048, 512, 1024]⟩
abbrev S2048x1024 : Shape := ⟨2, ![2048, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x128, .bf16⟩
  | .hbm, ⟨2, _⟩ => ⟨S2048x1, .i32⟩
  | .hbm, ⟨3, _⟩ => ⟨S128x512x1024, .bf16⟩
  | .hbm, ⟨4, _⟩ => ⟨S128x512x1024, .f32⟩
  | .hbm, ⟨5, _⟩ => ⟨S2048, .i32⟩
  | .hbm, ⟨6, _⟩ => ⟨S_, .i32⟩
  | .hbm, ⟨7, _⟩ => ⟨S2048, .i32⟩
  | .hbm, ⟨8, _⟩ => ⟨S2048, .i1⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S2048x1, .i32⟩
  | .hbm, ⟨14, _⟩ => ⟨S2048x512x1024, .f32⟩
  | .hbm, ⟨15, _⟩ => ⟨S2048x512, .f32⟩
  | .hbm, ⟨16, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proof.Fold.lean ====
/-
# The kernel's body with its four unrolled loops folded

The kernel unrolls four loops of 31 steps: the signals to the other devices, the transfers to them, the waits for
their chunks with the accumulation of each, and the waits for its own transfers. Here the body is written with the
four loops over lists (`foldBody`), and the printed body is shown to be this one (`cc0_body_eq_fold`).
-/
module

public import proofs.«01_k».proof.Proof.Gen.KernelIdeal
public import proofs.«01_k».proof.Proof.Gen.KernelIdeal.Skeleton
public import Idealize.ShloMosaic.Lib.Pipeline.Regions

@[expose] public section

noncomputable section

namespace Cert.Dispatch

open Cert.KernelIdeal Cert.KernelIdeal.Gen
open Idealize.ShloMosaic Idealize.SL.Sem

variable {F : FTy → Type} [FloatOps F]

/-- A program of one TensorCore. -/
abbrev Act (F : FTy → Type) [FloatOps F] (α : Type) : Type 1 := Prog (TpuEff nD τ sig (Elt F) Λ₀ .tc) α

/-- One action per element of the list, in order. -/
def each {α : Type} (f : α → Act F PUnit) : List α → Act F PUnit
  | [] => Prog.ret ⟨⟩
  | a :: rest => (f a).bind fun _ => each f rest

/-- The steps of an unrolled loop: step `i` handles the device at distance `i + 1`. -/
def steps : List (Fin 31) := [0, 1, 2, 3, 4, 5, 6, 7, 8, 9, 10, 11, 12, 13, 14, 15, 16, 17, 18, 19, 20, 21, 22, 23, 24, 25, 26, 27, 28, 29, 30]

/-- The devices that the signals address, in the kernel's order. -/
def sigTo (d0 : Dev nD) : List (Dev nD) :=
  [⟨k0_dev1 d0, k0_dev1_lt d0⟩, ⟨k0_dev2 d0, k0_dev2_lt d0⟩, ⟨k0_dev3 d0, k0_dev3_lt d0⟩, ⟨k0_dev4 d0, k0_dev4_lt d0⟩,
   ⟨k0_dev5 d0, k0_dev5_lt d0⟩, ⟨k0_dev6 d0, k0_dev6_lt d0⟩, ⟨k0_dev7 d0, k0_dev7_lt d0⟩, ⟨k0_dev8 d0, k0_dev8_lt d0⟩,
   ⟨k0_dev9 d0, k0_dev9_lt d0⟩, ⟨k0_dev10 d0, k0_dev10_lt d0⟩, ⟨k0_dev11 d0, k0_dev11_lt d0⟩, ⟨k0_dev12 d0, k0_dev12_lt d0⟩,
   ⟨k0_dev13 d0, k0_dev13_lt d0⟩, ⟨k0_dev14 d0, k0_dev14_lt d0⟩, ⟨k0_dev15 d0, k0_dev15_lt d0⟩, ⟨k0_dev16 d0, k0_dev16_lt d0⟩,
   ⟨k0_dev17 d0, k0_dev17_lt d0⟩, ⟨k0_dev18 d0, k0_dev18_lt d0⟩, ⟨k0_dev19 d0, k0_dev19_lt d0⟩, ⟨k0_dev20 d0, k0_dev20_lt d0⟩,
   ⟨k0_dev21 d0, k0_dev21_lt d0⟩, ⟨k0_dev22 d0, k0_dev22_lt d0⟩, ⟨k0_dev23 d0, k0_dev23_lt d0⟩, ⟨k0_dev24 d0, k0_dev24_lt d0⟩,
   ⟨k0_dev25 d0, k0_dev25_lt d0⟩, ⟨k0_dev26 d0, k0_dev26_lt d0⟩, ⟨k0_dev27 d0, k0_dev27_lt d0⟩, ⟨k0_dev28 d0, k0_dev28_lt d0⟩,
   ⟨k0_dev29 d0, k0_dev29_lt d0⟩, ⟨k0_dev30 d0, k0_dev30_lt d0⟩, ⟨k0_dev31 d0, k0_dev31_lt d0⟩]

/-- The step and the device of each transfer, in the kernel's order. -/
def sendTo (d0 : Dev nD) : List (Fin 31 × Dev nD) :=
  [(0, ⟨k0_dev32 d0, k0_dev32_lt d0⟩), (1, ⟨k0_dev33 d0, k0_dev33_lt d0⟩), (2, ⟨k0_dev34 d0, k0_dev34_lt d0⟩), (3, ⟨k0_dev35 d0, k0_dev35_lt d0⟩),
   (4, ⟨k0_dev36 d0, k0_dev36_lt d0⟩), (5, ⟨k0_dev37 d0, k0_dev37_lt d0⟩), (6, ⟨k0_dev38 d0, k0_dev38_lt d0⟩), (7, ⟨k0_dev39 d0, k0_dev39_lt d0⟩),
   (8, ⟨k0_dev40 d0, k0_dev40_lt d0⟩), (9, ⟨k0_dev41 d0, k0_dev41_lt d0⟩), (10, ⟨k0_dev42 d0, k0_dev42_lt d0⟩), (11, ⟨k0_dev43 d0, k0_dev43_lt d0⟩),
   (12, ⟨k0_dev44 d0, k0_dev44_lt d0⟩), (13, ⟨k0_dev45 d0, k0_dev45_lt d0⟩), (14, ⟨k0_dev46 d0, k0_dev46_lt d0⟩), (15, ⟨k0_dev47 d0, k0_dev47_lt d0⟩),
   (16, ⟨k0_dev48 d0, k0_dev48_lt d0⟩), (17, ⟨k0_dev49 d0, k0_dev49_lt d0⟩), (18, ⟨k0_dev50 d0, k0_dev50_lt d0⟩), (19, ⟨k0_dev51 d0, k0_dev51_lt d0⟩),
   (20, ⟨k0_dev52 d0, k0_dev52_lt d0⟩), (21, ⟨k0_dev53 d0, k0_dev53_lt d0⟩), (22, ⟨k0_dev54 d0, k0_dev54_lt d0⟩), (23, ⟨k0_dev55 d0, k0_dev55_lt d0⟩),
   (24, ⟨k0_dev56 d0, k0_dev56_lt d0⟩), (25, ⟨k0_dev57 d0, k0_dev57_lt d0⟩), (26, ⟨k0_dev58 d0, k0_dev58_lt d0⟩), (27, ⟨k0_dev59 d0, k0_dev59_lt d0⟩),
   (28, ⟨k0_dev60 d0, k0_dev60_lt d0⟩), (29, ⟨k0_dev61 d0, k0_dev61_lt d0⟩), (30, ⟨k0_dev62 d0, k0_dev62_lt d0⟩)]

/-- The barrier semaphore. -/
abbrev barS : Sem sig := (SemArray.scalar (sig.barrier 0 rfl) : Sems sig S_).sem

theorem inb_sem (i : Fin 31) : ∀ a, (![i.val] : Fin 1 → Nat) a + S1.size a ≤ S31.size a := by
  revert i; decide

/-- Semaphore `i` of an array of 31. -/
abbrev semOf (arr : DmaSems sig S31) (i : Fin 31) : DmaSem sig :=
  ((arr.slice (Rect.unit (s := S31) ![i.val] S1.size (inb_sem i))).squeeze S_ squeezes_S1_S_).sem

/-- The distance of step `i` as a word. -/
abbrev stepW (i : Fin 31) : BitVec 32 := BitVec.ofNat 32 (1 + i.val)

/-- The sender that step `i` waits for, as the kernel computes its number. -/
def peerW (v2 dw : BitVec 32) : BitVec 32 :=
  let v1207 : BitVec 32 := Scalar.subi (Scalar.addi v2 32#32) dw
  let v1208 : BitVec 1 := Scalar.cmpi .eq 32#32 0#32
  let v1209 : BitVec 32 := Scalar.select v1208 1#32 32#32
  let v1210 : BitVec 32 := Scalar.remsi v1207 v1209
  let v1211 : BitVec 1 := Scalar.cmpi .ne v1210 0#32
  let v1212 : BitVec 1 := Scalar.cmpi .slt v1210 0#32
  let v1213 : BitVec 1 := Scalar.cmpi .slt v1209 0#32
  let v1214 : BitVec 1 := Scalar.xori v1212 v1213
  let v1215 : BitVec 1 := Scalar.andi v1214 v1211
  let v1216 : BitVec 32 := Scalar.addi v1210 v1209
  Scalar.select v1215 v1216 v1210

/-- Where each token's row lies in the chunk of device `w`, as a 0/1 matrix. -/
def pick (w : BitVec 32) (colf : FVec F S2048x1 .f32) : FVec F S2048x128 .bf16 :=
  k0_pay18 w colf

/-- One accumulation: the old sum plus the rows that the chunk holds. -/
def accum (w : BitVec 32) (colf : FVec F S2048x1 .f32) (chunk : Vec F S128x1024 .bf16) (old : Vec F S2048x1024 .f32) :
    FVec F S2048x1024 .f32 :=
  k0_pay22 (pick w colf) chunk old

/-- The kernel's number for its own device. -/
def meW (d0 : Dev nD) : BitVec 32 := Scalar.remsi (Scalar.divsi (Dev.word d0) 1#32) 32#32

/-- Each token's row among all chunks: its owner's first row plus its slot. -/
def colf (r : Vec F S2048x1 .i32) : FVec F S2048x1 .f32 := k0_pay7 (k0_pay1 r) (k0_pay2 r) (k0_pay3 r) k0_pay4

/-- The chunk that device `w` computes from the indices, the tokens and its four experts. -/
def chunk (w : BitVec 32) (r : Vec F S2048x1 .i32) (x : Vec F S2048x512 .bf16) (w0 w1 w2 w3 : Vec F S1x512x1024 .bf16) :
    FVec F S128x1024 .bf16 :=
  k0_pay15 (k0_pay9 w (k0_pay1 r) (k0_pay2 r) (k0_pay3 r) k0_pay4 x) (k0_pay10 w (k0_pay1 r) (k0_pay2 r) (k0_pay3 r) k0_pay4)
    (k0_pay13 (k0_pay9 w (k0_pay1 r) (k0_pay2 r) (k0_pay3 r) k0_pay4 x) (k0_pay10 w (k0_pay1 r) (k0_pay2 r) (k0_pay3 r) k0_pay4)
      k0_pay11 (k0_pay12 w) w0 w1 w2)
    (k0_pay14 (k0_pay12 w)) (Scalar.ofBits .f32 0x40400000#32) w3

section Body

variable (arg0 : Memref sig .tc .vmem S2048x512 .bf16) (harg0 : arg0.IsWhole) (arg1 : Memref sig .tc .vmem S2048x1 .i32)
  (harg1 : arg1.IsWhole) (arg2 : Memref sig .tc .vmem S4x512x1024 .bf16) (harg2 : arg2.IsWhole)
  (arg3 : Memref sig .tc .vmem S2048x1024 .f32) (harg3 : arg3.IsWhole) (arg4 : Memref sig .tc .vmem S4096x1024 .bf16)
  (harg4 : arg4.IsWhole) (arg5 : DmaSems sig S31) (arg6 : DmaSems sig S31)

/-- Device `d0`'s own chunk, as its transfers name it. -/
abbrev own (d0 : Dev nD) : Memref sig .tc .vmem S128x1024 .bf16 :=
  arg4.slice (Rect.unit (s := S4096x1024) (k0_off2 d0) S128x1024.size (k0_off2_inb d0)) (fun _ => rfl)

/-- The chunk that step `i` of device `d0` waits for. -/
abbrev theirs (d0 : Dev nD) (i : Fin 31) : Memref sig .tc .vmem S128x1024 .bf16 :=
  arg4.slice (Rect.unit (s := S4096x1024) (k0_off3 d0 (stepW i)) S128x1024.size (k0_off3_inb d0 i)) (fun _ => rfl)

/-- The whole result, read. -/
abbrev loadOut : Act F (Vec F S2048x1024 .f32) :=
  Prog.lift (.load arg3 (Rect.unit (s := S2048x1024) ![0, 0] S2048x1024.size inb_S2048x1024_S2048x1024_0_0).toLoadRect
    (View.loadsAt_vmem h_S2048x1024))

/-- The whole result, written. -/
abbrev storeOut (v : FVec F S2048x1024 .f32) : Act F PUnit :=
  Prog.lift (.store arg3 (Rect.unit (s := S2048x1024) ![0, 0] S2048x1024.size inb_S2048x1024_S2048x1024_0_0) v Finset.univ
    (View.stores_vmem_bits_univ h_S2048x1024 rfl) (.inl rfl))

/-- A transfer of the own chunk to the device `p.2`. -/
abbrev sendStep (d0 : Dev nD) (p : Fin 31 × Dev nD) : Act F PUnit :=
  Prog.lift (.enqueueDma (own arg4 d0) (.remote (Dev.tc p.2) (own arg4 d0) (.dma (semOf arg5 p.1)))
    (.dma (semOf arg6 p.1)) (harg4.wordExact_slice rfl _ (k0_off2_wordsbf16 d0))
    (harg4.wordExact_slice rfl _ (k0_off2_wordsbf16 d0)) ⟨⟨rfl, Or.inl rfl⟩, trivial⟩)

/-- Step `i` of the receiving loop: the wait for the chunk, and its accumulation. -/
abbrev recvStep (d0 : Dev nD) (cf : FVec F S2048x1 .f32) (i : Fin 31) : Act F PUnit :=
  (Prog.lift (.waitDma2 (semOf arg6 i) (theirs arg4 d0 i) (theirs arg4 d0 i)
    (harg4.wordExact_slice rfl _ (k0_off3_wordsbf16 d0 i)) (harg4.wordExact_slice rfl _ (k0_off3_wordsbf16 d0 i)))).bind fun _ =>
  (Prog.lift (.load arg4 (Rect.unit (s := S4096x1024) (k0_off4 d0 (stepW i)) S128x1024.size (k0_off4_inb d0 i)).toLoadRect
    (View.loadsAt_vmem h_S128x1024))).bind fun (ch : Vec F S128x1024 .bf16) =>
  (loadOut arg3).bind fun old => (loadOut arg3).bind fun _ =>
  storeOut arg3 (accum (peerW (meW d0) (stepW i)) cf ch old)

/-- Step `i` of the last loop: the wait for the own transfer `i`. -/
abbrev doneStep (d0 : Dev nD) (i : Fin 31) : Act F PUnit :=
  Prog.lift (.waitDma2 (semOf arg5 i) (own arg4 d0) (own arg4 d0)
    (harg4.wordExact_slice rfl _ (k0_off2_wordsbf16 d0)) (harg4.wordExact_slice rfl _ (k0_off2_wordsbf16 d0)))

/-- Expert `j` of the device's four, read. -/
abbrev loadW (j : Nat) (h : ∀ a, (![j, 0, 0] : Fin 3 → Nat) a + S1x512x1024.size a ≤ S4x512x1024.size a) :
    Act F (Vec F S1x512x1024 .bf16) :=
  Prog.lift (.load arg2 (Rect.unit (s := S4x512x1024) ![j, 0, 0] S1x512x1024.size h).toLoadRect (View.loadsAt_vmem h_S1x512x1024))

/-- The own chunk, read. -/
abbrev loadOwn (d0 : Dev nD) : Act F (Vec F S128x1024 .bf16) :=
  Prog.lift (.load arg4 (Rect.unit (s := S4096x1024) (k0_off1 d0) S128x1024.size (k0_off1_inb d0)).toLoadRect
    (View.loadsAt_vmem h_S128x1024))

/-- The own chunk, written. -/
abbrev storeOwn (d0 : Dev nD) (v : FVec F S128x1024 .bf16) : Act F PUnit :=
  Prog.lift (.store arg4 (Rect.unit (s := S4096x1024) (k0_off1 d0) S128x1024.size (k0_off1_inb d0)) v Finset.univ
    (View.stores_vmem h_S128x1024 (harg4.storeExact_slice rfl _ (k0_off1_packedbf16 d0)) (fun _ => rfl)) (.inl rfl))

/-- The last stage: the sum over the chunks, and the waits for the own transfers. -/
def foldTail (d0 : Dev nD) (cf : FVec F S2048x1 .f32) : Act F PUnit :=
  (loadOut arg3).bind fun _ => (storeOut arg3 (k0_pay16 (F := F))).bind fun _ =>
  (loadOwn arg4 d0).bind fun ch => (loadOut arg3).bind fun old => (loadOut arg3).bind fun _ =>
  (storeOut arg3 (accum (meW d0) cf ch old)).bind fun _ =>
  (each (recvStep arg3 arg4 harg4 arg6 d0 cf) steps).bind fun _ =>
  each (doneStep arg4 harg4 arg5 d0) steps

/-- The body with its loops folded. -/
def foldBody : Act F PUnit :=
  (Prog.lift .deviceId).bind fun (d0 : Dev nD) =>
  (each (fun q : Dev nD => semSignalWord q barS 1#32) (sigTo d0)).bind fun _ =>
  (semWaitWord barS 31#32).bind fun _ =>
  (Prog.lift (.load arg1 (Rect.unit (s := S2048x1) ![0, 0] S2048x1.size inb_S2048x1_S2048x1_0_0).toLoadRect
    (View.loadsAt_vmem h_S2048x1))).bind fun (r : Vec F S2048x1 .i32) =>
  (Prog.lift (.load arg0 (Rect.unit (s := S2048x512) ![0, 0] S2048x512.size inb_S2048x512_S2048x512_0_0).toLoadRect
    (View.loadsAt_vmem h_S2048x512))).bind fun (x : Vec F S2048x512 .bf16) =>
  (loadW arg2 0 inb_S4x512x1024_S1x512x1024_0_0_0).bind fun w0 =>
  (loadW arg2 1 inb_S4x512x1024_S1x512x1024_1_0_0).bind fun w1 =>
  (loadW arg2 2 inb_S4x512x1024_S1x512x1024_2_0_0).bind fun w2 =>
  (loadW arg2 3 inb_S4x512x1024_S1x512x1024_3_0_0).bind fun w3 =>
  (loadOwn arg4 d0).bind fun _ =>
  (storeOwn arg4 harg4 d0 (chunk (meW d0) r x w0 w1 w2 w3)).bind fun _ =>
  (each (sendStep arg4 harg4 arg5 arg6 d0) (sendTo d0)).bind fun _ =>
  foldTail arg3 arg4 harg4 arg5 arg6 d0 (colf r)

set_option maxRecDepth 65536 in
/-- The printed body is the folded one. -/
theorem cc0_body_eq_fold :
    cc0_body_skel (F := F) arg0 harg0 arg1 harg1 arg2 harg2 arg3 harg3 arg4 harg4 arg5 arg6 = foldBody arg0 arg1 arg2 arg3 arg4 harg4 arg5 arg6 := by
  chain_rfl

end Body

end Cert.Dispatch

end
-- ==== Proof.Mesh.lean ====
/-
# The ring of 32 devices, the semaphore cells and the chunks of the shared buffer

The kernel's loops go round the ring: step `i` of a device addresses the device `i + 1` places after it (`ahead i`), and
waits for the one `i + 1` places before it (`back i`). Here the kernel's computed device numbers and offsets are given
these closed forms, and the communication buffer is cut into its 32 chunks.
-/
module

public import proofs.«01_k».proof.Proof.Fold
public import proofs.«01_k».proof.Proof.Gen.KernelIdeal.Launch
public import Idealize.ShloMosaic.Lib.Ring

@[expose] public section

noncomputable section

namespace Cert.Dispatch

open Cert.KernelIdeal Cert.KernelIdeal.Gen
open Idealize.ShloMosaic Idealize.SL.Sem
open Idealize.ShloMosaic.TcCoe

/-! ## The ring -/

set_option backward.proofsInPublic true in
/-- The device `i + 1` places after `c`. -/
def ahead (i : Fin 31) (c : Dev nD) : Dev nD := ⟨(c.val + (i.val + 1)) % 32, Nat.mod_lt _ (by decide)⟩
set_option backward.proofsInPublic true in
/-- The device `i + 1` places before `c`. -/
def back (i : Fin 31) (c : Dev nD) : Dev nD := ⟨(c.val + (31 - i.val)) % 32, Nat.mod_lt _ (by decide)⟩

theorem val_lt (c : Dev nD) : c.val < 32 := c.isLt

theorem back_ahead (i : Fin 31) (c : Dev nD) : back i (ahead i c) = c := by
  apply Fin.ext; have h := val_lt c; have := i.isLt; simp only [back, ahead]; omega
theorem ahead_back (i : Fin 31) (c : Dev nD) : ahead i (back i c) = c := by
  apply Fin.ext; have h := val_lt c; have := i.isLt; simp only [back, ahead]; omega
theorem ahead_ne (i : Fin 31) (c : Dev nD) : ahead i c ≠ c := fun e => by
  have e := congrArg Fin.val e; have h := val_lt c; have := i.isLt; simp only [ahead] at e; omega
theorem back_ne (i : Fin 31) (c : Dev nD) : back i c ≠ c := fun e => ahead_ne i (back i c) (by rw [ahead_back, e])

/-- Going `i + 1` places on, as a permutation. -/
def turn (i : Fin 31) : Dev nD ≃ Dev nD := ⟨ahead i, back i, back_ahead i, ahead_back i⟩

set_option backward.proofsInPublic true in
/-- The step after which `c` reaches `q`. -/
def stepTo (c q : Dev nD) : Fin 31 := ⟨((q.val + 31 - c.val) % 32) % 31, Nat.mod_lt _ (by decide)⟩

theorem ahead_stepTo {c q : Dev nD} (h : q ≠ c) : ahead (stepTo c q) c = q := by
  have h' : q.val ≠ c.val := fun e => h (Fin.ext e)
  apply Fin.ext; have := val_lt c; have := val_lt q; simp only [ahead, stepTo]; omega
theorem stepTo_ahead (i : Fin 31) (c : Dev nD) : stepTo c (ahead i c) = i := by
  apply Fin.ext; have := val_lt c; have := i.isLt; simp only [ahead, stepTo]; omega
theorem back_stepTo {c q : Dev nD} (h : q ≠ c) : back (stepTo q c) c = q := by
  conv_lhs => rw [← ahead_stepTo (c := q) (q := c) (Ne.symm h)]
  rw [stepTo_ahead, back_ahead]
theorem stepTo_back (i : Fin 31) (c : Dev nD) : stepTo (back i c) c = i := by
  conv_lhs => rw [← ahead_back i c]
  rw [back_ahead, stepTo_ahead]

/-- The devices that the signals address; -/
theorem sigTo_eq (c : Dev nD) : sigTo c = steps.map fun i => ahead i c := by revert c; decide +kernel
/-- those that the transfers address, with their steps; -/
theorem sendTo_eq (c : Dev nD) : sendTo c = steps.map fun i => (i, ahead i c) := by revert c; decide +kernel
/-- the offset of the chunk waited for at step `i`; -/
theorem off3_eq (c : Dev nD) (i : Fin 31) : k0_off3 c (stepW i) = ![128 * (back i c).val, 0] := by revert c i; decide +kernel
theorem off4_eq (c : Dev nD) (i : Fin 31) : k0_off4 c (stepW i) = ![128 * (back i c).val, 0] := by revert c i; decide +kernel
/-- the device's own number as a word, and the number of the one it waits for. -/
theorem meW_eq (c : Dev nD) : meW c = BitVec.ofNat 32 c.val := by revert c; decide +kernel
theorem peerW_eq (c : Dev nD) (i : Fin 31) : peerW (meW c) (stepW i) = BitVec.ofNat 32 (back i c).val := by revert c i; decide +kernel

theorem steps_nodup : steps.Nodup := by decide
theorem mem_steps (i : Fin 31) : i ∈ steps := by revert i; decide

/-! ## The cells -/

/-- The kernel's semaphores: the barrier, or which of its two arrays (`true` for the receiving one) and where. -/
abbrev Slot : Type := Unit ⊕ (Bool × Fin 31)

abbrev sendS (i : Fin 31) : DmaSem sig := semOf cc0_scratch1 i
abbrev recvS (i : Fin 31) : DmaSem sig := semOf cc0_scratch2 i

theorem sendS_val (i : Fin 31) : (sendS i).val = 4 + i.val := by revert i; decide
theorem recvS_val (i : Fin 31) : (recvS i).val = 35 + i.val := by revert i; decide

/-- The kernel's own semaphores. -/
def osem : Bool × Fin 31 → SemLoc sig
  | (false, i) => .dma (sendS i)
  | (true, i) => .dma (recvS i)
/-- All of the kernel's semaphores. -/
def csem : Slot → SemLoc sig
  | .inl _ => .reg barS
  | .inr k => osem k

abbrev barCell (c : Dev nD) : GSem nD τ sig := ((c : Thread nD τ), .reg barS)
abbrev sendCell (c : Dev nD) (i : Fin 31) : GSem nD τ sig := ((c : Thread nD τ), .dma (sendS i))
abbrev recvCell (c : Dev nD) (i : Fin 31) : GSem nD τ sig := ((c : Thread nD τ), .dma (recvS i))
abbrev kcell (ck : Dev nD × Slot) : GSem nD τ sig := ((ck.1 : Thread nD τ), csem ck.2)

theorem ownSemFacts : Pipeline.OwnSemFacts cfg0.spec osem := by decide +kernel

theorem csem_injective : Function.Injective csem := by decide +kernel

theorem kcell_injective : Function.Injective (kcell : Dev nD × Slot → GSem nD τ sig) := by
  rintro ⟨c, k⟩ ⟨c', k'⟩ h
  have h1 : c = c' := congrArg (fun g : GSem nD τ sig => g.1.1) h
  have h2 : k = k' := csem_injective (congrArg Prod.snd h)
  rw [h1, h2]

/-! ## The chunks -/

/-- The communication buffer. -/
abbrev comm : Memref sig .tc .vmem S4096x1024 .bf16 := Memref.whole cc0_scratch0

theorem off2_inb (q : Dev nD) : ∀ a, (![128 * q.val, 0] : Fin 2 → Nat) a + S128x1024.size a ≤ S4096x1024.size a := by
  rw [← k0_off2_eq q]; exact k0_off2_inb q

/-- The rows of device `q`'s chunk. -/
abbrev rows (q : Dev nD) : Rect S4096x1024 := Rect.unit (s := S4096x1024) ![128 * q.val, 0] S128x1024.size (off2_inb q)

theorem own_rect (c : Dev nD) : Rect.unit (s := S4096x1024) (k0_off2 c) S128x1024.size (k0_off2_inb c) = rows c :=
  Rect.unit_congr (k0_off2_eq c) _ _
theorem own_rect' (c : Dev nD) : Rect.unit (s := S4096x1024) (k0_off1 c) S128x1024.size (k0_off1_inb c) = rows c :=
  Rect.unit_congr (k0_off1_eq c) _ _
theorem their_rect (c : Dev nD) (i : Fin 31) : Rect.unit (s := S4096x1024) (k0_off4 c (stepW i)) S128x1024.size (k0_off4_inb c i) = rows (back i c) :=
  Rect.unit_congr (off4_eq c i) _ _

/-- The elements of device `q`'s chunk. -/
def part (q : Dev nD) : Finset (S4096x1024).Idx := (rows q).set

theorem part_disjoint (q q' : Dev nD) (h : q ≠ q') : Disjoint (part q) (part q') :=
  Ring.lead_disjoint (s := S4096x1024) (NB := 32) (R := 128) (a₀ := (0 : Fin 2)) (fun b => ![128 * b.val, 0]) S128x1024.size
    off2_inb (fun _ => rfl) rfl q q' h

theorem part_cover : Finset.univ.biUnion part = Finset.univ :=
  Ring.lead_cover (s := S4096x1024) (NB := 32) (R := 128) (a₀ := (0 : Fin 2)) (fun b => ![128 * b.val, 0]) S128x1024.size
    off2_inb (fun _ => rfl) (fun _ a ha => by fin_cases a; · exact absurd rfl ha
                                              · rfl) rfl (fun a ha => by fin_cases a; · exact absurd rfl ha
                                                                         · rfl) rfl

theorem own_set (c : Dev nD) : (own comm c).view.set = part c := by
  show ((View.whole cc0_scratch0).slice _).set = _
  rw [View.set_slice, own_rect]
  exact Finset.map_refl

/-- An element of the buffer lies in the chunk of the device that its row, divided by 128, numbers. -/
theorem mem_part {q : Dev nD} {x : (S4096x1024).Idx} : x ∈ part q ↔ (x 0).val / 128 = q.val := by
  unfold part
  rw [Rect.mem_set_unit]
  have h1 : (x 1).val < 1024 := (x 1).isLt
  have hd (a b : ℕ) : (128 * b ≤ a ∧ a < 128 * b + 128) ↔ a / 128 = b := by omega
  refine ⟨fun h => (hd _ _).1 (h 0), fun h a => ?_⟩
  match a with
  | 0 => exact (hd _ _).2 h
  | 1 => exact ⟨Nat.zero_le _, by rw [show (![128 * q.val, 0] : Fin 2 → ℕ) 1 = 0 from rfl, Nat.zero_add]; exact h1⟩

end Cert.Dispatch

end
-- ==== Proof.Protocol.lean ====
/-
# The protocol between the devices

Every device runs the same body, and each semaphore of it is used for one round.

* The barrier semaphore of device `q` is signalled once by each of the 31 other devices and waited for 31. The signal of
  device `p` hands over the chunk of `p`'s communication buffer that `q` will write.
* Receiving semaphore `i` of device `c` is counted up by the transfer of the device `i + 1` places before `c`. It hands
  over that device's chunk of `c`'s communication buffer, filled (`commAll`).
* Sending semaphore `i` of device `c` is counted up by `c`'s own transfer to the device `i + 1` places after it. It hands
  back the share of `c`'s own chunk that the transfer read.

A device owes, at launch, one unit to each other barrier and one chunk's credit to one receiving semaphore of each other
device. At its barrier wait it owes the credits only; at the later waits it owes nothing.
-/
module

public import proofs.«01_k».proof.Proof.Mesh
public import Idealize.ShloMosaic.Lib.Rounds
public import Idealize.ShloMosaic.Lib.Transfers
public import Idealize.ShloMosaic.Lib.Pipeline.Launch
public import Idealize.ShloMosaic.Lib.Pipeline.Kit
public import Idealize.ShloMosaic.Lib.Tactic

@[expose] public section

noncomputable section

namespace Cert.Dispatch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

/-! ## The resource algebra: the pipeline's rounds and the protocol's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Contents -/

/-- What the pipeline stages of device `c`'s arrays: the tokens, the indices, the four experts. -/
def xstg (c : Dev nD) : (cc0_stg0_0 : Ref sig .tc).ty.Contents (Elt F) :=
  (win0_0.blk (0 : Fin 1)).view.read (Elt F) (m ((c : Thread nD τ).loc main_arg0))
def rstg (c : Dev nD) : (cc0_stg1_0 : Ref sig .tc).ty.Contents (Elt F) :=
  (win0_1.blk (0 : Fin 1)).view.read (Elt F) (m ((c : Thread nD τ).loc main_arg2))
def wstg (c : Dev nD) : (cc0_stg2_0 : Ref sig .tc).ty.Contents (Elt F) :=
  (win0_2.blk (0 : Fin 1)).view.read (Elt F) (m ((c : Thread nD τ).loc main_arg3))

/-- Expert `j` of a device's four. -/
def slab (w : (cc0_stg2_0 : Ref sig .tc).ty.Contents (Elt F)) (j : Nat)
    (h : ∀ a, (![j, 0, 0] : Fin 3 → Nat) a + S1x512x1024.size a ≤ S4x512x1024.size a) : Vec F S1x512x1024 .bf16 :=
  (Memref.whole cc0_stg2_0 : Memref sig .tc .vmem S4x512x1024 .bf16).view.readAt (Elt F)
    (Rect.unit (s := S4x512x1024) ![j, 0, 0] S1x512x1024.size h).toLoadRect w

/-- The chunk that device `q` computes. -/
def chunkOf (q : Dev nD) : FVec F S128x1024 .bf16 :=
  chunk (meW q) (rstg m q) (xstg m q) (slab (wstg m q) 0 inb_S4x512x1024_S1x512x1024_0_0_0)
    (slab (wstg m q) 1 inb_S4x512x1024_S1x512x1024_1_0_0) (slab (wstg m q) 2 inb_S4x512x1024_S1x512x1024_2_0_0)
    (slab (wstg m q) 3 inb_S4x512x1024_S1x512x1024_3_0_0)

set_option backward.proofsInPublic true in
/-- The device whose chunk an element lies in; -/
def ownerOf (x : S4096x1024.Idx) : Dev nD := ⟨(x 0).val / 128, by have : (x 0).val < 4096 := (x 0).isLt; show _ < 32; omega⟩
set_option backward.proofsInPublic true in
/-- its place in that chunk. -/
def within (x : S4096x1024.Idx) : S128x1024.Idx
  | 0 => ⟨(x 0).val % 128, Nat.mod_lt _ (by decide)⟩
  | 1 => x 1

/-- The communication buffer when every chunk has arrived, the same on every device. -/
def commAll : S4096x1024.Idx → Elt F .bf16 := fun x => chunkOf m (ownerOf x) (within x)

theorem ownerOf_emb (q : Dev nD) (x : S128x1024.Idx) : ownerOf ((rows q).emb x) = q := by
  have h : (x 0).val < 128 := (x 0).isLt
  apply Fin.ext
  show (128 * q.val + 1 * (x 0).val) / 128 = q.val
  omega
theorem within_emb (q : Dev nD) (x : S128x1024.Idx) : within ((rows q).emb x) = x := by
  have h : (x 0).val < 128 := (x 0).isLt
  funext a
  match a with
  | 0 => exact Fin.ext (show (128 * q.val + 1 * (x 0).val) % 128 = (x 0).val by omega)
  | 1 => exact Fin.ext (show 0 + 1 * (x 1).val = (x 1).val by omega)
theorem commAll_emb (q : Dev nD) (x : S128x1024.Idx) : commAll m ((rows q).emb x) = chunkOf m q x := by
  unfold commAll; rw [ownerOf_emb, within_emb]

/-- Device `q`'s chunk of device `c`'s buffer, at a share. -/
def pts (c q : Dev nD) (sh : PosShare TreeShare) (f : Buf (Elt F) ((c : Thread nD τ).loc cc0_scratch0)) : sProp 𝕄 :=
  ((c : Thread nD τ).loc cc0_scratch0) ↦[part q]{sh} f

instance pts_storable (c q : Dev nD) (sh) (f) : BI.Storable (upEmb : UEmb _ 𝕄) (pts (F := F) c q sh f) := by unfold pts; infer_instance

/-- A whole buffer is its chunks; -/
theorem whole_pts (c : Dev nD) (f : Buf (Elt F) ((c : Thread nD τ).loc cc0_scratch0)) :
    (((c : Thread nD τ).loc cc0_scratch0) ↦{fullShare} f : sProp 𝕄) = bigSep Finset.univ fun q => pts c q fullShare f :=
  Ring.pointsTo_blocks (ℓ := (c : Thread nD τ).loc cc0_scratch0) (fun q => part q) (fun q q' h => part_disjoint q q' h)
    (Finset.eq_univ_iff_forall.2 fun x => Finset.mem_biUnion.2 ⟨ownerOf x, Finset.mem_univ _, mem_part.2 rfl⟩) f

/-- the credit of one chunk's transfer. -/
abbrev N : ℕ := (own comm (0 : Dev nD)).view.dmaCredit
theorem N_pos : 0 < N := View.dmaCredit_pos _ (by decide)

/-! ## The schedule -/

/-- What device `p`'s signal hands device `q`: `q`'s chunk of `p`'s buffer. -/
def barPay (q p : Dev nD) : sProp 𝕄 := iprop(∃ f, pts p q fullShare f)
/-- What the arrival at step `i` hands device `c`: the sender's chunk, filled. -/
def recvPay (c : Dev nD) (i : Fin 31) : sProp 𝕄 := pts c (back i c) fullShare (commAll m)
/-- What the end of its own transfer hands device `c`: the share that was read. -/
def sendPay (c : Dev nD) (i : Fin 31) : sProp 𝕄 := pts c c (shareTok fullShare 31 i) (commAll m)

instance barPay_storable (q p : Dev nD) : BI.Storable (upEmb : UEmb _ 𝕄) (barPay (F := F) q p) := by unfold barPay; infer_instance
instance recvPay_storable (c : Dev nD) (i) : BI.Storable (upEmb : UEmb _ 𝕄) (recvPay m c i) := by unfold recvPay; infer_instance
instance sendPay_storable (c : Dev nD) (i) : BI.Storable (upEmb : UEmb _ 𝕄) (sendPay m c i) := by unfold sendPay; infer_instance

set_option backward.proofsInPublic true in
/-- The place of a semaphore in its array (meaningful for those of the two arrays). -/
def placeOf (q : DmaSem sig) : Fin 31 := ⟨(q.val - 4) % 31, Nat.mod_lt _ (by decide)⟩

theorem placeOf_send (i : Fin 31) : placeOf (sendS i) = i := by
  apply Fin.ext; have := i.isLt; simp only [placeOf, sendS_val]; omega
theorem placeOf_recv (i : Fin 31) : placeOf (recvS i) = i := by
  apply Fin.ext; have := i.isLt; simp only [placeOf, recvS_val]; omega

/-- The duties of one semaphore on device `c`. -/
def dutiesAt (c : Dev nD) : SemLoc sig → Finset (Dev nD)
  | .reg s => if s = barS then Finset.univ.erase c else ∅
  | .dma q => if 4 ≤ q.val then {c} else ∅

/-- What each hands over. -/
def payAt (c : Dev nD) (p : Dev nD) : SemLoc sig → sProp 𝕄
  | .reg _ => barPay c p
  | .dma q => if q.val < 35 then sendPay m c (placeOf q) else recvPay m c (placeOf q)

/-- How much each counts. -/
def unitsOf : SemLoc sig → ℕ
  | .reg _ => 1
  | .dma _ => N

/-- The schedule: one round, round 0. -/
def ringRd : Rounds.Schedule (GSem nD τ sig) (Dev nD) 𝕄 where
  duties g r := if r = 0 ∧ g.1.2 = .tc then dutiesAt g.1.1 g.2 else ∅
  unitless _ := False
  amount g _ _ := unitsOf g.2
  payload g _ d := payAt m g.1.1 d g.2
  amount_pos g _ _ _ := by
    cases h : g.2 with
    | reg s => exact Nat.one_pos
    | dma q => exact N_pos

instance ringRd_payload_storable (g : GSem nD τ sig) (r : ℕ) (d : Dev nD) :
    BI.Storable (upEmb : UEmb _ 𝕄) ((ringRd m).payload g r d) := by
  show BI.Storable upEmb (payAt m g.1.1 d g.2)
  cases g.2 with
  | reg s => unfold payAt; infer_instance
  | dma q => unfold payAt; dsimp only; split <;> infer_instance

section Sched
variable (c : Dev nD) (i : Fin 31)

theorem duties_bar : (ringRd (F := F) m).duties (barCell c) 0 = Finset.univ.erase c := by
  dsimp only [ringRd]; rw [if_pos ⟨rfl, rfl⟩]; unfold dutiesAt; dsimp only; rw [if_pos rfl]
theorem duties_own (k : Bool × Fin 31) : (ringRd (F := F) m).duties ((c : Thread nD τ), osem k) 0 = {c} := by
  dsimp only [ringRd]; rw [if_pos ⟨rfl, rfl⟩]
  match k with
  | (false, i) => exact if_pos (by rw [sendS_val]; omega)
  | (true, i) => exact if_pos (by rw [recvS_val]; omega)
theorem duties_send : (ringRd (F := F) m).duties (sendCell c i) 0 = {c} := duties_own m c (false, i)
theorem duties_recv : (ringRd (F := F) m).duties (recvCell c i) 0 = {c} := duties_own m c (true, i)
theorem duties_later (g : GSem nD τ sig) : ∀ r, 1 ≤ r → (ringRd (F := F) m).duties g r = ∅ :=
  fun r hr => by dsimp only [ringRd]; rw [if_neg fun h => by omega]

theorem expect_bar : (ringRd (F := F) m).expect (barCell c) 0 = 31 := by
  unfold Schedule.expect Schedule.amountOf
  rw [duties_bar]
  show ∑ d ∈ Finset.univ.erase c, 1 = 31
  rw [Finset.sum_const, Finset.card_erase_of_mem (Finset.mem_univ c), Finset.card_univ, Fintype.card_fin]
  rfl
theorem expect_own (k : Bool × Fin 31) : (ringRd (F := F) m).expect ((c : Thread nD τ), osem k) 0 = N := by
  unfold Schedule.expect Schedule.amountOf; rw [duties_own, Finset.sum_singleton]
  match k with
  | (false, i) => rfl
  | (true, i) => rfl

theorem payload_bar (p : Dev nD) : (ringRd (F := F) m).payload (barCell c) 0 p = barPay c p := rfl
theorem payload_send (p : Dev nD) : (ringRd (F := F) m).payload (sendCell c i) 0 p = sendPay m c i := by
  show (if (sendS i).val < 35 then sendPay m c (placeOf (sendS i)) else recvPay m c (placeOf (sendS i))) = _
  have := i.isLt
  rw [if_pos (by rw [sendS_val]; omega), placeOf_send]
theorem payload_recv (p : Dev nD) : (ringRd (F := F) m).payload (recvCell c i) 0 p = recvPay m c i := by
  show (if (recvS i).val < 35 then sendPay m c (placeOf (recvS i)) else recvPay m c (placeOf (recvS i))) = _
  rw [if_neg (by rw [recvS_val]; omega), placeOf_recv]

/-- The 31 other devices, counted along the ring in either direction. -/
theorem others_ahead : Finset.univ.map ⟨fun i => ahead i c, fun i j h => by rw [← stepTo_ahead i c, ← stepTo_ahead j c]; exact congrArg _ h⟩ = Finset.univ.erase c := by
  ext q; simp only [Finset.mem_map, Finset.mem_univ, true_and, Finset.mem_erase, and_true, Function.Embedding.coeFn_mk]
  exact ⟨fun ⟨i, h⟩ => h ▸ ahead_ne i c, fun h => ⟨stepTo c q, ahead_stepTo h⟩⟩
theorem others_back : Finset.univ.map ⟨fun i => back i c, fun i j h => by rw [← stepTo_back i c, ← stepTo_back j c]; exact congrArg (fun q => stepTo q c) h⟩ = Finset.univ.erase c := by
  ext q; simp only [Finset.mem_map, Finset.mem_univ, true_and, Finset.mem_erase, and_true, Function.Embedding.coeFn_mk]
  exact ⟨fun ⟨i, h⟩ => h ▸ back_ne i c, fun h => ⟨stepTo q c, back_stepTo h⟩⟩

theorem bigSep_ahead (Φ : Dev nD → sProp 𝕄) : bigSep (Finset.univ.erase c) Φ = bigSep Finset.univ fun i => Φ (ahead i c) := by
  rw [← others_ahead, bigSep_map]; rfl
theorem bigSep_back (Φ : Dev nD → sProp 𝕄) : bigSep (Finset.univ.erase c) Φ = bigSep Finset.univ fun i => Φ (back i c) := by
  rw [← others_back, bigSep_map]; rfl

/-- What the waits return: from the barrier, the device's chunk of every other buffer; -/
theorem rest_bar : bigSep ((ringRd (F := F) m).duties (barCell c) 0 \ ∅) (fun d => (ringRd (F := F) m).payload (barCell c) 0 d)
    = bigSep Finset.univ fun i => barPay c (ahead i c) := by
  rw [Finset.sdiff_empty, duties_bar, bigSep_ahead]; rfl
theorem rest_send : bigSep ((ringRd (F := F) m).duties (sendCell c i) 0 \ ∅) (fun d => (ringRd (F := F) m).payload (sendCell c i) 0 d) = sendPay m c i := by
  rw [Finset.sdiff_empty, duties_send, bigSep_singleton, payload_send]
theorem rest_recv : bigSep ((ringRd (F := F) m).duties (recvCell c i) 0 \ ∅) (fun d => (ringRd (F := F) m).payload (recvCell c i) 0 d) = recvPay m c i := by
  rw [Finset.sdiff_empty, duties_recv, bigSep_singleton, payload_recv]

end Sched

/-! ## What each device owes, and the levels -/

/-- The credits owed for the transfers of the listed steps; -/
def oweRecv (c : Dev nD) (l : List (Fin 31)) : CellTallies nD τ sig Unit := (l.map fun i => tallyAt (recvCell (ahead i c) i) () N).sum
/-- the units owed for the signals of the listed steps. -/
def oweBar (c : Dev nD) (l : List (Fin 31)) : CellTallies nD τ sig Unit := (l.map fun i => tallyAt (barCell (ahead i c)) () 1).sum
/-- All of it, before the first signal. -/
def O₀ (c : Dev nD) : CellTallies nD τ sig Unit := oweRecv c steps + oweBar c steps

theorem oweRecv_cons (c : Dev nD) (i : Fin 31) (l : List (Fin 31)) : oweRecv c (i :: l) = oweRecv c l + tallyAt (recvCell (ahead i c) i) () N := by
  unfold oweRecv; rw [List.map_cons, List.sum_cons, add_comm]
theorem oweBar_cons (c : Dev nD) (i : Fin 31) (l : List (Fin 31)) : oweBar c (i :: l) = oweBar c l + tallyAt (barCell (ahead i c)) () 1 := by
  unfold oweBar; rw [List.map_cons, List.sum_cons, add_comm]
theorem oweRecv_nil (c : Dev nD) : oweRecv c [] = 0 := rfl
theorem oweBar_nil (c : Dev nD) : oweBar c [] = 0 := rfl

/-- A tally that owes something at a cell is the tally at that cell. -/
theorem tallyAt_pos {g g' : GSem nD τ sig} {u u' : Unit} {k : ℕ} (h : 0 < (tallyAt g u k : CellTallies nD τ sig Unit) g' u') : g' = g := by
  rw [tallyAt_apply] at h
  by_contra hn
  rw [if_neg fun e => hn e.1] at h
  exact Nat.lt_irrefl 0 h

theorem oweRecv_pos {c : Dev nD} {g : GSem nD τ sig} {u : Unit} : ∀ {l : List (Fin 31)}, 0 < oweRecv c l g u → ∃ i, g = recvCell (ahead i c) i
  | [], h => absurd h (Nat.lt_irrefl 0)
  | i :: l, h => by
    rw [oweRecv_cons, Pi.add_apply, Finsupp.add_apply] at h
    rcases (by omega : 0 < oweRecv c l g u ∨ 0 < (tallyAt (recvCell (ahead i c) i) () N : CellTallies nD τ sig Unit) g u) with h | h
    · exact oweRecv_pos h
    · exact ⟨i, tallyAt_pos h⟩
theorem oweBar_pos {c : Dev nD} {g : GSem nD τ sig} {u : Unit} : ∀ {l : List (Fin 31)}, 0 < oweBar c l g u → ∃ i, g = barCell (ahead i c)
  | [], h => absurd h (Nat.lt_irrefl 0)
  | i :: l, h => by
    rw [oweBar_cons, Pi.add_apply, Finsupp.add_apply] at h
    rcases (by omega : 0 < oweBar c l g u ∨ 0 < (tallyAt (barCell (ahead i c)) () 1 : CellTallies nD τ sig Unit) g u) with h | h
    · exact oweBar_pos h
    · exact ⟨i, tallyAt_pos h⟩
theorem O₀_pos {c : Dev nD} {g : GSem nD τ sig} {u : Unit} (h : 0 < O₀ c g u) : (∃ i, g = recvCell (ahead i c) i) ∨ ∃ i, g = barCell (ahead i c) := by
  unfold O₀ at h
  rw [Pi.add_apply, Finsupp.add_apply] at h
  rcases (by omega : 0 < oweRecv c steps g u ∨ 0 < oweBar c steps g u) with h | h
  · exact .inl (oweRecv_pos h)
  · exact .inr (oweBar_pos h)

def L (g : GSem nD τ sig) : Finset Unit := if g.1.2 = .tc then {()} else ∅
/-- The barrier cells at 1, the receiving cells at 2, all others at 0. -/
def lv (g : GSem nD τ sig) (_ : Unit) : ℕ := match g.2 with
  | .reg _ => 1
  | .dma q => if q.val < 35 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (i : Fin 31) (u : Unit) : lv (recvCell c i) u = 2 := by
  show (if (recvS i).val < 35 then 0 else 2) = 2
  rw [if_neg (by rw [recvS_val]; omega)]
theorem lv_bar (c : Dev nD) (u : Unit) : lv (barCell c) u = 1 := rfl
theorem lv_low (c : Dev nD) (q : DmaSem sig) (h : q.val < 35) (u : Unit) : lv ((c : Thread nD τ), .dma q) u = 0 := if_pos h

/-- The pipeline's own waits come below everything owed. -/
theorem mayWait_stage (c : Dev nD) (q : DmaSem sig) (hq : q.val < 35) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨i, rfl⟩ <;> exact Finset.mem_singleton_self _)
      (fun p hp => by rw [Finset.mem_singleton.mp hp, lv_low c q hq])
      (fun g u hg => by
        rcases O₀_pos hg with ⟨i, rfl⟩ | ⟨i, rfl⟩
        · rw [lv_recv]; decide
        · rw [lv_bar]; decide)
  · rw [MayWait_zero]; iintro -; iempintro

/-- At its barrier wait a device owes the transfers' credits only, above its barrier. -/
theorem mayWait_bar (c : Dev nD) : (levAts L lv : sProp 𝕄) ⊢ MayWait (c : Thread nD τ) (.reg barS) () (oweRecv c steps) :=
  MayOwe.of_cut (L := L) (lev := lv) 1 (fun p hp => by rw [Finset.mem_singleton.mp hp, L_tc]; exact Finset.mem_singleton_self _)
    (fun g u hg => by obtain ⟨i, rfl⟩ := oweRecv_pos hg; exact Finset.mem_singleton_self _)
    (fun p hp => by rw [Finset.mem_singleton.mp hp, lv_bar])
    (fun g u hg => by obtain ⟨i, rfl⟩ := oweRecv_pos hg; rw [lv_recv]; decide)

end Cert.Dispatch

end
-- ==== Proof.Body.lean ====
/-
# The body of one device

The four loops of the folded body are executed each by one rule per step (`wp_each`): the step's own pieces go in and
come out, and what the loop carries along (the record of the cells, what is owed, the result so far) is threaded.
-/
module

public import proofs.«01_k».proof.Proof.Protocol

@[expose] public section

noncomputable section

namespace Cert.Dispatch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The program `p` on device `c` ends in `Q`. -/
abbrev WP {α : Type} (c : Dev nD) (p : Act F α) (Q : α → sProp 𝕄) : sProp 𝕄 :=
  wp frame (wpE (defs₀ (F := F)) 𝒱₀ (c : Thread nD τ) none) Set.univ p Q

/-! ## Loops -/

/-- One piece per element of the list. -/
def hold {α : Type} (Φ : α → sProp 𝕄) : List α → sProp 𝕄
  | [] => iprop(emp)
  | a :: rest => iprop(Φ a ∗ hold Φ rest)

theorem hold_toFinset {α : Type} [DecidableEq α] (Φ : α → sProp 𝕄) : ∀ {l : List α}, l.Nodup → bigSep l.toFinset Φ = hold Φ l
  | [], _ => bigSep_empty
  | a :: rest, h => by
    have h := List.nodup_cons.1 h
    rw [List.toFinset_cons, bigSep_insert (fun e => h.1 (List.mem_toFinset.1 e)), hold_toFinset Φ h.2]
    rfl

theorem hold_steps (Φ : Fin 31 → sProp 𝕄) : bigSep Finset.univ Φ = hold Φ steps := by
  rw [← hold_toFinset Φ steps_nodup]
  congr 1

theorem each_map {α β : Type} (g : α → β) (f : β → Act F PUnit) : ∀ l : List α, each f (l.map g) = each (fun a => f (g a)) l
  | [] => rfl
  | a :: rest => by show (f (g a)).bind _ = (f (g a)).bind _; rw [each_map g f rest]

/-- A loop: each step takes its own piece `Pre a` to `Post a`, carrying `S`. -/
theorem wp_each {α : Type} (c : Dev nD) (f : α → Act F PUnit) (S : List α → sProp 𝕄) (Pre Post : α → sProp 𝕄)
    (hstep : ∀ (a : α) (rest : List α) (k : PUnit → Act F PUnit) (Q : PUnit → sProp 𝕄),
      iprop(S (a :: rest) ∗ Pre a) ⊢ iprop(((S rest ∗ Post a) -∗ WP c (k ⟨⟩) Q) -∗ WP c ((f a).bind k) Q))
    (k : PUnit → Act F PUnit) (Q : PUnit → sProp 𝕄) : ∀ l : List α,
      iprop(S l ∗ hold Pre l) ⊢ iprop(((S [] ∗ hold Post l) -∗ WP c (k ⟨⟩) Q) -∗ WP c ((each f l).bind k) Q)
  | [] => by
    iintro H Hk
    iapply Hk
    iexact H
  | a :: rest => by
    rw [show (each f (a :: rest)).bind k = (f a).bind fun _ => (each f rest).bind k from Prog.bind_assoc (f a) (fun _ => each f rest) k]
    show iprop(S (a :: rest) ∗ Pre a ∗ hold Pre rest) ⊢ iprop(((S [] ∗ Post a ∗ hold Post rest) -∗ WP c (k ⟨⟩) Q) -∗ _)
    iintro ⟨HS, Ha, Hr⟩ Hk
    iapply (hstep a rest _ Q) $$ [HS Ha]
    · isplitl [HS] <;> iassumption
    iintro ⟨HS, Hp⟩
    iapply (wp_each c f S Pre Post hstep k Q rest) $$ [HS Hr]
    · isplitl [HS] <;> iassumption
    iintro ⟨HS, Hps⟩
    iapply Hk
    isplitl [HS]; · iexact HS
    isplitl [Hp] <;> iassumption

/-! ## The record of the cells -/

/-- Every cell's invariant, under the names it was allocated at, and that it has reached its round. -/
def records (K : Dev nD × Slot → ℕ) : sProp 𝕄 :=
  iprop((bigSep Finset.univ fun ck : Dev nD × Slot => cellInv ER (ringRd m) (K ck) (kcell ck))
    ∗ bigSep Finset.univ fun ck : Dev nD × Slot => reached ER (kcell ck) 0)

instance records_persistent (K : Dev nD × Slot → ℕ) : BI.Persistent (records m K) := by unfold records; infer_instance

theorem inv_at (K : Dev nD × Slot → ℕ) (ck : Dev nD × Slot) : records m K ⊢ cellInv ER (ringRd m) (K ck) (kcell ck) := by
  unfold records
  iintro ⟨H, -⟩
  have h : (bigSep Finset.univ fun ck : Dev nD × Slot => (cellInv ER (ringRd m) (K ck) (kcell ck) : sProp 𝕄)) ⊢ cellInv ER (ringRd m) (K ck) (kcell ck) := bigSep_elim (Finset.mem_univ ck)
  iapply h
  iexact H
theorem reached_at (K : Dev nD × Slot → ℕ) (ck : Dev nD × Slot) : records m K ⊢ reached ER (kcell ck) 0 := by
  unfold records
  iintro ⟨-, H⟩
  have h : (bigSep Finset.univ fun ck : Dev nD × Slot => (reached ER (kcell ck) 0 : sProp 𝕄)) ⊢ reached ER (kcell ck) 0 := bigSep_elim (Finset.mem_univ ck)
  iapply h
  iexact H

/-! ## Views of the chunks -/

/-- What a view reads, written back through it, is what was there. -/
theorem copy_through {sp : Space} {s : Shape} {e : EltTy} (v : View sig .tc sp s e) (fd fs : v.ty.Contents (Elt F)) :
    ∀ i ∈ v.set, v.write (Elt F) fd (v.read (Elt F) fs) Finset.univ i = fs i := by
  intro i hi
  obtain ⟨x, -, rfl⟩ := Finset.mem_map.1 hi
  rw [View.write_emb_of_mem _ _ (Finset.mem_univ x), View.read_apply]
  simp only [cast_cast, cast_eq]

theorem pts_own (c q : Dev nD) (sh : PosShare TreeShare) (f : Buf (Elt F) ((c : Thread nD τ).loc cc0_scratch0)) :
    pts c q sh f = ((own comm q).view.loc (c : Thread nD τ) ↦[(own comm q).view.set]{sh} f : sProp 𝕄) := by
  unfold pts
  rw [show (own comm q).view.set = part q from own_set q]

/-- The chunk's rows read from the filled buffer; -/
theorem read_rows (q : Dev nD) : (comm : Memref sig .tc .vmem S4096x1024 .bf16).view.readAt (Elt F) (rows q).toLoadRect (commAll m) = chunkOf m q :=
  funext fun x => commAll_emb m q x

/-- an element of a chunk, from its place in it; -/
theorem emb_within {q : Dev nD} {i : S4096x1024.Idx} (h : i ∈ part q) : (rows q).emb (within i) = i := by
  have h := mem_part.1 h
  funext a
  match a with
  | 0 => exact Fin.ext (show 128 * q.val + 1 * ((i 0).val % 128) = (i 0).val by omega)
  | 1 => exact Fin.ext (show 0 + 1 * (i 1).val = (i 1).val by omega)

/-- and the rows written over any contents. -/
theorem write_rows (q : Dev nD) (f : S4096x1024.Idx → Elt F .bf16) :
    ∀ i ∈ part q, ((comm : Memref sig .tc .vmem S4096x1024 .bf16).access (rows q)).write (Elt F) f (chunkOf m q) Finset.univ i = commAll m i := by
  intro i hi
  rw [← emb_within hi,
    show ((rows q).emb (within i) : S4096x1024.Idx) = ((comm : Memref sig .tc .vmem S4096x1024 .bf16).access (rows q)).emb (within i) from rfl,
    View.write_emb_of_mem _ _ (Finset.mem_univ (within i))]
  exact (commAll_emb m q (within i)).symm

theorem rows_setOn (q : Dev nD) : (comm : Memref sig .tc .vmem S4096x1024 .bf16).view.setOn (rows q).set ⊆ part q := by
  rw [show (comm : Memref sig .tc .vmem S4096x1024 .bf16).view.setOn (rows q).set = part q from Finset.map_refl]

/-- The result buffer of device `c`. -/
def outPts (c : Dev nD) (v : Vec F S2048x1024 .f32) : sProp 𝕄 := ((c : Thread nD τ).loc cc0_stg3_0) ↦{fullShare} v

section Loops

variable (K : Dev nD × Slot → ℕ) (c : Dev nD)

/-- What is owed, whatever was waited for. -/
def owing (O : CellTallies nD τ sig Unit) : sProp 𝕄 := iprop(∃ W, owes (c : Thread nD τ) O W)

/-! ## The signals -/

theorem wp_signals (k : PUnit → Act F PUnit) (Q : PUnit → sProp 𝕄) :
    iprop((records m K ∗ owing c (oweRecv c steps + oweBar c steps))
        ∗ hold (fun i => iprop(dutyTok ER (barCell (ahead i c)) 0 c ∗ barPay (ahead i c) c)) steps)
      ⊢ iprop((((records m K ∗ owing c (oweRecv c steps + oweBar c [])) ∗ hold (fun _ => iprop(emp)) steps) -∗ WP c (k ⟨⟩) Q)
          -∗ WP c ((each (fun q : Dev nD => semSignalWord q barS 1#32) (sigTo c)).bind k) Q) := by
  rw [sigTo_eq, each_map]
  refine wp_each c _ (fun l => iprop(records m K ∗ owing c (oweRecv c steps + oweBar c l))) _ _ (fun i rest k Q => ?_) k Q steps
  simp only [semSignalWord, Prog.lift, Prog.bind_op, Prog.bind_ret]
  unfold owing
  iintro ⟨⟨#HR, %W, HO⟩, Ht, Hp⟩ Hk
  iapply (Rounds.wp_signal 𝒱₀ ER (ringRd m) (c : Thread nD τ) none (dst := (ahead i c : Thread nD τ)) (κ := K (ahead i c, .inl ()))
      (d := c) (by rw [duties_bar]; exact Finset.mem_erase.2 ⟨(ahead_ne i c).symm, Finset.mem_univ _⟩) rfl () (O₀ := oweRecv c steps + oweBar c (i :: rest))
      (oweRecv c steps + oweBar c rest) (by rw [oweBar_cons, ← add_assoc]; rfl)) $$ [HO Ht Hp]
  · isplitr; · iapply (inv_at m K (ahead i c, .inl ())); iexact HR
    isplitl [HO]; · iexact HO
    isplitl [Ht]; · iexact Ht
    isplitl [Hp]; · rw [payload_bar]; iexact Hp
    iapply (reached_at m K (ahead i c, .inl ())); iexact HR
  iintro HO
  iapply Hk
  isplitl
  · isplitr; · iexact HR
    iexists W; iexact HO
  · iempintro

/-! ## The transfers -/

theorem own_amount (q : DmaSem sig) : (own comm c).view.amount (.dma q) = N := rfl

theorem pay_send (i : Fin 31) :
    ((own comm c).view.loc (c : Thread nD τ) ↦[(own comm c).view.set]{shareTok fullShare 31 i} (commAll m) : sProp 𝕄)
      ⊢ (ringRd m).payload (sendCell c i) 0 c := by
  rw [payload_send]; unfold sendPay; rw [pts_own]

theorem pay_recv (i : Fin 31) (fd : Buf (Elt F) ((ahead i c : Thread nD τ).loc cc0_scratch0)) :
    ((own comm c).view.loc (ahead i c : Thread nD τ) ↦[(own comm c).view.set]{fullShare}
        ((own comm c).view.write (Elt F) fd ((own comm c).view.read (Elt F) (commAll m)) Finset.univ) : sProp 𝕄)
      ⊢ (ringRd m).payload (recvCell (ahead i c) i) 0 (ahead i c) := by
  rw [payload_recv]; unfold recvPay; rw [back_ahead, pts_own]
  exact Entails.of_eq (pointsTo_congr (copy_through (own comm c).view fd (commAll m)))

theorem send_due (i : Fin 31) : c ∈ (ringRd (F := F) m).duties (sendCell c i) 0 := by rw [duties_send]; exact Finset.mem_singleton_self _
theorem recv_due (i : Fin 31) : ahead i c ∈ (ringRd (F := F) m).duties (recvCell (ahead i c) i) 0 := by rw [duties_recv]; exact Finset.mem_singleton_self _

theorem wp_send_rule (i : Fin 31) (rest : List (Fin 31)) (W : Waits sig Unit)
    (fd : Buf (Elt F) ((own comm c).view.loc (ahead i c : Thread nD τ)))
    {hsc : (own comm c : Memref sig (Dev.tc (ahead i c) : Thread nD τ).2.kind .vmem S128x1024 .bf16).view.ref.isScScratch = false}
    {hsrc : (own comm c).view.WordExact} {hdst : (own comm c).view.WordExact}
    {hsem : DmaTarget.Typed .vmem (.dma (recvS i)) (.remote (Dev.tc (ahead i c) : Thread nD τ) (own comm c) (.dma (sendS i)) hsc)}
    (k : PUnit → Act F PUnit) (Q : PUnit → sProp 𝕄) :
    iprop(cellInv ER (ringRd m) (K (c, .inr (false, i))) (sendCell c i) ∗ cellInv ER (ringRd m) (K (ahead i c, .inr (true, i))) (recvCell (ahead i c) i)
        ∗ ((own comm c).view.loc (c : Thread nD τ) ↦[(own comm c).view.set]{shareTok fullShare 31 i} (commAll m))
        ∗ ((own comm c).view.loc (ahead i c : Thread nD τ) ↦[(own comm c).view.set]{fullShare} fd)
        ∗ owes (c : Thread nD τ) (oweRecv c (i :: rest)) W
        ∗ dutyTok ER (sendCell c i) 0 c ∗ reached ER (sendCell c i) 0
        ∗ dutyTok ER (recvCell (ahead i c) i) 0 (ahead i c) ∗ reached ER (recvCell (ahead i c) i) 0)
      ⊢ iprop(((cred (tallyAt (sendCell c i) () N) ∗ owes (c : Thread nD τ) (oweRecv c rest) W) -∗ WP c (k ⟨⟩) Q)
          -∗ WP c (.op (.enqueueDma (own comm c) (.remote (Dev.tc (ahead i c) : Thread nD τ) (own comm c) (.dma (sendS i)) hsc)
            (.dma (recvS i)) hsrc hdst hsem) k) Q) :=
  Rounds.wp_send_pointsTo (Q := Q) (defs := defs₀ (F := F)) 𝒱₀ ER (ringRd m) (c : Thread nD τ) none (c' := (ahead i c : Thread nD τ)) (src := own comm c) (dst := own comm c) (hsc := hsc) (sS := .dma (sendS i))
    (sem := .dma (recvS i)) (hsrc := hsrc) (hdst := hdst) (hsem := hsem) (k := k) (q := shareTok fullShare 31 i) (fs := commAll m) (fd := fd)
    (r₁ := 0) (r₂ := 0) (d₁ := c) (d₂ := ahead i c) (κ₁ := K (c, .inr (false, i))) (κ₂ := K (ahead i c, .inr (true, i)))
    (send_due m c i) (recv_due m c i) () () N (own_amount c _) rfl rfl (O₀ := oweRecv c (i :: rest)) (oweRecv c rest) (oweRecv_cons c i rest) (W := W)
    (pay_send m c i) (pay_recv m c i fd) (Es := Set.univ) (by routes)

theorem wp_send_chunk (i : Fin 31) (rest : List (Fin 31)) (k : PUnit → Act F PUnit) (Q : PUnit → sProp 𝕄) :
    iprop((records m K ∗ owing c (oweRecv c (i :: rest)))
        ∗ (dutyTok ER (sendCell c i) 0 c ∗ dutyTok ER (recvCell (ahead i c) i) 0 (ahead i c)
          ∗ pts c c (shareTok fullShare 31 i) (commAll m) ∗ barPay c (ahead i c)))
      ⊢ iprop((((records m K ∗ owing c (oweRecv c rest)) ∗ cred (tallyAt (sendCell c i) () N)) -∗ WP c (k ⟨⟩) Q)
          -∗ WP c ((sendStep comm (Memref.isWhole_whole _) cc0_scratch1 cc0_scratch2 c (i, ahead i c)).bind k) Q) := by
  simp only [sendStep, Prog.lift, Prog.bind_op, Prog.bind_ret]
  unfold owing barPay
  iintro ⟨⟨#HR, %W, HO⟩, HtS, HtV, Hsrc, %fd, Hdst⟩ Hk
  ihave Hs := (Entails.of_eq (pts_own c c _ _)) $$ Hsrc
  ihave Hd := (Entails.of_eq (pts_own (ahead i c) c _ fd)) $$ Hdst
  iapply (wp_send_rule m K c i rest W fd k Q) $$ [HtS HtV Hs Hd HO]
  · isplitr; · iapply (inv_at m K (c, .inr (false, i))); iexact HR
    isplitr; · iapply (inv_at m K (ahead i c, .inr (true, i))); iexact HR
    isplitl [Hs]; · iexact Hs
    isplitl [Hd]; · iexact Hd
    isplitl [HO]; · iexact HO
    isplitl [HtS]; · iexact HtS
    isplitr; · iapply (reached_at m K (c, .inr (false, i))); iexact HR
    isplitl [HtV]; · iexact HtV
    iapply (reached_at m K (ahead i c, .inr (true, i))); iexact HR
  iintro ⟨HcS, HO⟩
  iapply Hk
  isplitr [HcS]
  · isplitr; · iexact HR
    iexists W; iexact HO
  · iexact HcS

theorem wp_sends (k : PUnit → Act F PUnit) (Q : PUnit → sProp 𝕄) :
    iprop((records m K ∗ owing c (oweRecv c steps))
        ∗ hold (fun i => iprop(dutyTok ER (sendCell c i) 0 c ∗ dutyTok ER (recvCell (ahead i c) i) 0 (ahead i c)
          ∗ pts c c (shareTok fullShare 31 i) (commAll m) ∗ barPay c (ahead i c))) steps)
      ⊢ iprop((((records m K ∗ owing c (oweRecv c [])) ∗ hold (fun i => cred (tallyAt (sendCell c i) () N)) steps) -∗ WP c (k ⟨⟩) Q)
          -∗ WP c ((each (sendStep comm (Memref.isWhole_whole _) cc0_scratch1 cc0_scratch2 c) (sendTo c)).bind k) Q) := by
  rw [sendTo_eq, each_map]
  exact wp_each c _ (fun l => iprop(records m K ∗ owing c (oweRecv c l))) _ _ (wp_send_chunk m K c) k Q steps

/-! ## The waits for the chunks -/

/-- One step of the sum: the chunk of the device `i + 1` places before `c` is added. -/
def addChunk (cf : FVec F S2048x1 .f32) (acc : Vec F S2048x1024 .f32) (i : Fin 31) : Vec F S2048x1024 .f32 :=
  accum (peerW (meW c) (stepW i)) cf (chunkOf m (back i c)) acc

theorem hz : (![0, 0] : Fin 2 → Nat) = fun _ => 0 := funext fun a => by fin_cases a <;> rfl

theorem read_out (f : Vec F S2048x1024 .f32) :
    (Memref.whole cc0_stg3_0 : Memref sig .tc .vmem S2048x1024 .f32).view.readAt (Elt F)
      (Rect.unit (s := S2048x1024) ![0, 0] S2048x1024.size inb_S2048x1024_S2048x1024_0_0).toLoadRect f = f :=
  Memref.readAt_unit_zero (Elt F) cc0_stg3_0 hz _ f
theorem write_out (f w : Vec F S2048x1024 .f32) :
    ((Memref.whole cc0_stg3_0 : Memref sig .tc .vmem S2048x1024 .f32).access
      (Rect.unit (s := S2048x1024) ![0, 0] S2048x1024.size inb_S2048x1024_S2048x1024_0_0) : View sig .tc _ _ _).write (Elt F) f w Finset.univ = w :=
  Memref.write_access_unit_zero_univ (Elt F) cc0_stg3_0 hz _ f w

abbrev oM : Memref sig .tc .vmem S2048x1024 .f32 := Memref.whole cc0_stg3_0

/-- Reading and writing the result. -/
theorem wp_loadOut (v : Vec F S2048x1024 .f32) (k : Vec F S2048x1024 .f32 → Act F PUnit) (Q : PUnit → sProp 𝕄) :
    outPts c v ⊢ iprop((outPts c v -∗ WP c (k v) Q) -∗ WP c ((loadOut oM).bind k) Q) := by
  simp only [loadOut, Prog.lift, Prog.bind_op, Prog.bind_ret]
  unfold outPts
  iintro H Hk
  iapply (wp_load 𝒱₀ (c : Thread nD τ) none Set.univ (m := oM) (Finset.subset_univ _)) $$ H; iintro H
  rw [read_out]
  iapply Hk; iexact H
theorem wp_storeOut (v w : Vec F S2048x1024 .f32) (k : PUnit → Act F PUnit) (Q : PUnit → sProp 𝕄) :
    outPts c v ⊢ iprop((outPts c w -∗ WP c (k ⟨⟩) Q) -∗ WP c ((storeOut oM w).bind k) Q) := by
  simp only [storeOut, Prog.lift, Prog.bind_op, Prog.bind_ret]
  unfold outPts
  iintro H Hk
  iapply (wp_store 𝒱₀ (c : Thread nD τ) none Set.univ (m := oM)
    (r := Rect.unit (s := S2048x1024) ![0, 0] S2048x1024.size inb_S2048x1024_S2048x1024_0_0) (Mk := Finset.univ) (Finset.subset_univ _)) $$ H; iintro H
  rw [write_out]
  iapply Hk; iexact H

/-- Reading a chunk of the filled buffer. -/
theorem wp_loadRows (q : Dev nD) (off : Fin 2 → Nat) (inb : ∀ a, off a + S128x1024.size a ≤ S4096x1024.size a)
    (hoff : off = ![128 * q.val, 0]) (sh : PosShare TreeShare) (k : Vec F S128x1024 .bf16 → Act F PUnit) (Q : PUnit → sProp 𝕄)
    {hl : (comm : Memref sig .tc .vmem S4096x1024 .bf16).view.LoadsAt (Rect.unit (s := S4096x1024) off S128x1024.size inb).toLoadRect} :
    pts c q sh (commAll m) ⊢ iprop((pts c q sh (commAll m) -∗ WP c (k (chunkOf m q)) Q)
      -∗ WP c (.op (.load comm (Rect.unit (s := S4096x1024) off S128x1024.size inb).toLoadRect hl) k) Q) := by
  subst hoff
  unfold pts
  iintro H Hk
  iapply (wp_load 𝒱₀ (c : Thread nD τ) none Set.univ (m := comm) (rows_setOn q)) $$ H; iintro H
  rw [read_rows]
  iapply Hk; iexact H

theorem wp_recv_chunk (cf : FVec F S2048x1 .f32) (fin : Vec F S2048x1024 .f32) (i : Fin 31) (rest : List (Fin 31))
    (k : PUnit → Act F PUnit) (Q : PUnit → sProp 𝕄) :
    iprop((records m K ∗ owing c 0 ∗ ∃ v, ⌜(i :: rest).foldl (addChunk m c cf) v = fin⌝ ∗ outPts c v)
        ∗ (cred (tallyAt (recvCell c i) () N) ∗ atPos ER (recvCell c i) 0 ∅ 0))
      ⊢ iprop((((records m K ∗ owing c 0 ∗ ∃ v, ⌜rest.foldl (addChunk m c cf) v = fin⌝ ∗ outPts c v)
            ∗ (recvPay m c i ∗ atPos ER (recvCell c i) 1 ∅ 0)) -∗ WP c (k ⟨⟩) Q)
          -∗ WP c ((recvStep oM comm (Memref.isWhole_whole _) cc0_scratch2 c cf i).bind k) Q) := by
  unfold owing
  iintro ⟨⟨#HR, ⟨%W, HO⟩, ⟨%v, %hv, Hout⟩⟩, Hc, Hat⟩ Hk
  iapply (Rounds.wp_wait_rest_token 𝒱₀ ER (ringRd m) (c : Thread nD τ) none (κ := K (c, .inr (true, i)))
      (wpE_waitDma2_eq 𝒱₀ (c : Thread nD τ) none Set.univ) (Set.mem_univ _) () (O := 0) (W := W) (R := 0) (m := 0) (T := ∅)
      (by rw [Nat.zero_add]; exact (expect_own m c (true, i)).symm)) $$ [Hc HO Hat]
  · isplitr; · iapply (inv_at m K (c, .inr (true, i))); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c i)) $$ Hpay
  unfold recvPay
  iapply (wp_loadRows m c (back i c) _ _ (off4_eq c i) fullShare) $$ Hp; iintro Hp
  iapply (wp_loadOut c v) $$ Hout; iintro Hout
  iapply (wp_loadOut c v) $$ Hout; iintro Hout
  iapply (wp_storeOut c v) $$ Hout; iintro Hout
  iapply Hk
  isplitr [Hp Hat]
  · isplitr; · iexact HR
    isplitl [HO]; · iexists _; iexact HO
    iexists _; isplitr; · (ipureintro; exact hv)
    iexact Hout
  · isplitl [Hp] <;> iassumption

theorem wp_recvs (cf : FVec F S2048x1 .f32) (v : Vec F S2048x1024 .f32) (k : PUnit → Act F PUnit) (Q : PUnit → sProp 𝕄) :
    iprop((records m K ∗ owing c 0 ∗ outPts c v)
        ∗ hold (fun i => iprop(cred (tallyAt (recvCell c i) () N) ∗ atPos ER (recvCell c i) 0 ∅ 0)) steps)
      ⊢ iprop((((records m K ∗ owing c 0 ∗ outPts c (steps.foldl (addChunk m c cf) v))
            ∗ hold (fun i => iprop(recvPay m c i ∗ atPos ER (recvCell c i) 1 ∅ 0)) steps) -∗ WP c (k ⟨⟩) Q)
          -∗ WP c ((each (recvStep oM comm (Memref.isWhole_whole _) cc0_scratch2 c cf) steps).bind k) Q) := by
  iintro ⟨⟨#HR, HO, Hout⟩, Hh⟩ Hk
  iapply (wp_each c _ (fun l => iprop(records m K ∗ owing c 0 ∗ ∃ w, ⌜l.foldl (addChunk m c cf) w = steps.foldl (addChunk m c cf) v⌝ ∗ outPts c w))
    _ _ (wp_recv_chunk m K c cf (steps.foldl (addChunk m c cf) v)) k Q steps) $$ [HO Hout Hh]
  · isplitr [Hh]
    · isplitr; · iexact HR
      isplitl [HO]; · iexact HO
      iexists v; isplitr; · (ipureintro; rfl)
      iexact Hout
    · iexact Hh
  iintro ⟨⟨-, HO, ⟨%w, %hw, Hout⟩⟩, Hh⟩
  have hw' : w = steps.foldl (addChunk m c cf) v := hw
  subst hw'
  iapply Hk
  isplitr [Hh]
  · isplitr; · iexact HR
    isplitl [HO] <;> iassumption
  · iexact Hh

/-! ## The waits for the own transfers -/

theorem wp_dones (k : PUnit → Act F PUnit) (Q : PUnit → sProp 𝕄) :
    iprop((records m K ∗ owing c 0) ∗ hold (fun i => iprop(cred (tallyAt (sendCell c i) () N) ∗ atPos ER (sendCell c i) 0 ∅ 0)) steps)
      ⊢ iprop((((records m K ∗ owing c 0) ∗ hold (fun i => iprop(sendPay m c i ∗ atPos ER (sendCell c i) 1 ∅ 0)) steps) -∗ WP c (k ⟨⟩) Q)
          -∗ WP c ((each (doneStep comm (Memref.isWhole_whole _) cc0_scratch1 c) steps).bind k) Q) := by
  refine wp_each c _ (fun _ => iprop(records m K ∗ owing c 0)) _ _ (fun i rest k Q => ?_) k Q steps
  unfold owing
  iintro ⟨⟨#HR, ⟨%W, HO⟩⟩, Hc, Hat⟩ Hk
  iapply (Rounds.wp_wait_rest_token 𝒱₀ ER (ringRd m) (c : Thread nD τ) none (κ := K (c, .inr (false, i)))
      (wpE_waitDma2_eq 𝒱₀ (c : Thread nD τ) none Set.univ) (Set.mem_univ _) () (O := 0) (W := W) (R := 0) (m := 0) (T := ∅)
      (by rw [Nat.zero_add]; exact (expect_own m c (false, i)).symm)) $$ [Hc HO Hat]
  · isplitr; · iapply (inv_at m K (c, .inr (false, i))); iexact HR
    isplitl [Hc]; · iexact Hc
    isplitl [HO]; · iexact HO
    isplitr; · rw [MayWait_zero]; iempintro
    iexact Hat
  iintro ⟨HO, Hat, -, Hpay⟩
  ihave Hp := (Entails.of_eq (rest_send m c i)) $$ Hpay
  iapply Hk
  isplitr [Hp Hat]
  · isplitr; · iexact HR
    iexists _; iexact HO
  · isplitl [Hp] <;> iassumption

end Loops

end Cert.Dispatch

end
-- ==== Proof.Sound.lean ====
/-
# One device, from the launch to the end

The straight-line parts of the body, the two places where the communication buffer is cut into its chunks and put
together again, and the run of the whole body.
-/
module

public import proofs.«01_k».proof.Proof.Body
public import Idealize.ShloMosaic.Lib.Rounds.Family

@[expose] public section

noncomputable section

namespace Cert.Dispatch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-! ## Families over the semaphores, and over the chunks -/

theorem quad_comm (P Q R S : sProp 𝕄) : iprop((P ∗ Q) ∗ (R ∗ S)) = iprop((P ∗ R) ∗ (Q ∗ S)) := by
  refine equiv_iff.1 ⟨?_, ?_⟩
  · show iprop((P ∗ Q) ∗ R ∗ S) ⊢ iprop((P ∗ R) ∗ Q ∗ S)
    iintro ⟨⟨H1, H2⟩, H3, H4⟩
    isplitl [H1 H3]
    · isplitl [H1] <;> iassumption
    · isplitl [H2] <;> iassumption
  · show iprop((P ∗ R) ∗ Q ∗ S) ⊢ iprop((P ∗ Q) ∗ R ∗ S)
    iintro ⟨⟨H1, H2⟩, H3, H4⟩
    isplitl [H1 H3]
    · isplitl [H1] <;> iassumption
    · isplitl [H2] <;> iassumption

theorem hold_sep {α : Type} (Φ Ψ : α → sProp 𝕄) : ∀ l : List α, hold (fun a => iprop(Φ a ∗ Ψ a)) l = iprop(hold Φ l ∗ hold Ψ l)
  | [] => (sep_emp_eq _).symm
  | a :: rest => by
    show iprop((Φ a ∗ Ψ a) ∗ hold (fun a => iprop(Φ a ∗ Ψ a)) rest) = iprop((Φ a ∗ hold Φ rest) ∗ (Ψ a ∗ hold Ψ rest))
    rw [hold_sep Φ Ψ rest]
    exact quad_comm _ _ _ _

/-- A family over a device's semaphores: the barrier's, the sending ones', the receiving ones'. -/
theorem slots (Φ : Slot → sProp 𝕄) : bigSep Finset.univ Φ
    = iprop(Φ (.inl ()) ∗ hold (fun i => Φ (.inr (false, i))) steps ∗ hold (fun i => Φ (.inr (true, i))) steps) := by
  rw [bigSep_univ_sum, bigSep_univ_prod, bigSep_univ_eq_bigSepL [()] (by decide) (by decide),
    bigSep_univ_eq_bigSepL [false, true] (by decide) (by decide), bigSepL_cons_cons, bigSepL_singleton, bigSepL_singleton, hold_steps, hold_steps]
  rfl

section

variable (K : Dev nD × Slot → ℕ) (c : Dev nD)

/-- The whole buffer, at any contents: the own chunk, and what the signals hand over. -/
theorem cut (f : Buf (Elt F) ((c : Thread nD τ).loc cc0_scratch0)) :
    (((c : Thread nD τ).loc cc0_scratch0) ↦{fullShare} f : sProp 𝕄) ⊢ iprop(pts c c fullShare f ∗ hold (fun i => barPay (ahead i c) c) steps) := by
  rw [whole_pts, bigSep_univ_at _ c, bigSep_ahead, ← hold_steps]
  refine sep_mono_right (bigSep_mono fun i _ => ?_)
  show pts c (ahead i c) fullShare f ⊢ barPay (ahead i c) c
  unfold barPay
  iintro H
  iexists f
  iexact H

/-- The filled own chunk: what the later reads keep of it, and what the transfers read. -/
theorem share : pts c c fullShare (commAll m) ⊢ iprop(pts c c (shareDrop fullShare 31) (commAll m)
    ∗ hold (fun i => pts c c (shareTok fullShare 31 i) (commAll m)) steps) := by
  rw [← hold_steps]
  exact Transfers.pointsTo_toks_split fullShare 31

/-- At the end all of it is there again. -/
theorem join : iprop(pts c c (shareDrop fullShare 31) (commAll m) ∗ hold (sendPay m c) steps ∗ hold (recvPay m c) steps)
    ⊢ (((c : Thread nD τ).loc cc0_scratch0) ↦{fullShare} (commAll m) : sProp 𝕄) := by
  rw [whole_pts, bigSep_univ_at _ c, bigSep_back, ← hold_steps, ← hold_steps]
  iintro ⟨H1, H2, H3⟩
  isplitr [H3]
  · have h : iprop(pts c c (shareDrop fullShare 31) (commAll m) ∗ bigSep Finset.univ (sendPay m c)) ⊢ pts c c fullShare (commAll m) :=
      Transfers.pointsTo_toks_join fullShare 31
    iapply h
    isplitl [H1]; · iexact H1
    iexact H2
  · iexact H3

/-! ## The straight-line steps -/

theorem wp_device (k : Dev nD → Act F PUnit) (Q : PUnit → sProp 𝕄) : WP c (k c) Q ⊢ WP c ((Prog.lift .deviceId : Act F (Dev nD)).bind k) Q := by
  exact Entails.of_eq (wp_deviceId (defs := defs₀ (F := F)) (𝒱 := 𝒱₀) (c := (c : Thread nD τ)) (bd := none) (E := Set.univ) (k := k) (Q := Q)).symm

theorem wp_barrier (k : PUnit → Act F PUnit) (Q : PUnit → sProp 𝕄) :
    iprop(records m K ∗ levAts L lv ∗ owing c (oweRecv c steps) ∗ cred (tallyAt (barCell c) () 31) ∗ atPos ER (barCell c) 0 ∅ 0)
      ⊢ iprop(((owing c (oweRecv c steps) ∗ atPos ER (barCell c) 1 ∅ 0 ∗ hold (fun i => barPay c (ahead i c)) steps) -∗ WP c (k ⟨⟩) Q)
        -∗ WP c ((semWaitWord barS 31#32).bind k) Q) := by
  simp only [semWaitWord, Prog.lift, Prog.bind_op, Prog.bind_ret]
  unfold owing
  iintro ⟨#HR, #Hlev, ⟨%W, HO⟩, Hc, Hat⟩ Hk
  iapply (Rounds.wp_wait_rest_token 𝒱₀ ER (ringRd m) (c : Thread nD τ) none (κ := K (c, .inl ()))
      (wpE_semWait_eq 𝒱₀ (c : Thread nD τ) none Set.univ) (Set.mem_univ _) () (O := oweRecv c steps) (W := W) (R := 0) (m := 0) (T := ∅)
      (by rw [expect_bar]; decide)) $$ [Hc HO Hat]
  · isplitr; · iapply (inv_at m K (c, .inl ())); iexact HR
    isplitl [Hc]; · iexact Hc
    isplitl [HO]; · iexact HO
    isplitr; · iapply (mayWait_bar c); iexact Hlev
    iexact Hat
  iintro ⟨HO, Hat, -, Hpay⟩
  ihave Hp := (Entails.of_eq ((rest_bar m c).trans (hold_steps _))) $$ Hpay
  iapply Hk
  isplitl [HO]; · iexists _; iexact HO
  isplitl [Hat]; · iexact Hat
  iexact Hp

abbrev xM : Memref sig .tc .vmem S2048x512 .bf16 := Memref.whole cc0_stg0_0
abbrev rM : Memref sig .tc .vmem S2048x1 .i32 := Memref.whole cc0_stg1_0
abbrev wM : Memref sig .tc .vmem S4x512x1024 .bf16 := Memref.whole cc0_stg2_0

abbrev loadX : Act F (Vec F S2048x512 .bf16) :=
  Prog.lift (.load xM (Rect.unit (s := S2048x512) ![0, 0] S2048x512.size inb_S2048x512_S2048x512_0_0).toLoadRect (View.loadsAt_vmem h_S2048x512))
theorem wp_loadX (v : Vec F S2048x512 .bf16) (k : Vec F S2048x512 .bf16 → Act F PUnit) (Q : PUnit → sProp 𝕄) :
    (((c : Thread nD τ).loc cc0_stg0_0) ↦{fullShare} v : sProp 𝕄)
      ⊢ iprop(((((c : Thread nD τ).loc cc0_stg0_0) ↦{fullShare} v) -∗ WP c (k v) Q) -∗ WP c (loadX.bind k) Q) := by
  have hr : (xM : Memref sig .tc .vmem S2048x512 .bf16).view.readAt (Elt F) (Rect.unit (s := S2048x512) ![0, 0] S2048x512.size inb_S2048x512_S2048x512_0_0).toLoadRect v = v :=
    Memref.readAt_unit_zero (Elt F) cc0_stg0_0 hz _ v
  simp only [loadX, Prog.lift, Prog.bind_op, Prog.bind_ret]
  iintro H Hk
  iapply (wp_load 𝒱₀ (c : Thread nD τ) none Set.univ (m := xM) (Finset.subset_univ _)) $$ H; iintro H
  rw [hr]
  iapply Hk; iexact H
abbrev loadR : Act F (Vec F S2048x1 .i32) :=
  Prog.lift (.load rM (Rect.unit (s := S2048x1) ![0, 0] S2048x1.size inb_S2048x1_S2048x1_0_0).toLoadRect (View.loadsAt_vmem h_S2048x1))
theorem wp_loadR (v : Vec F S2048x1 .i32) (k : Vec F S2048x1 .i32 → Act F PUnit) (Q : PUnit → sProp 𝕄) :
    (((c : Thread nD τ).loc cc0_stg1_0) ↦{fullShare} v : sProp 𝕄)
      ⊢ iprop(((((c : Thread nD τ).loc cc0_stg1_0) ↦{fullShare} v) -∗ WP c (k v) Q) -∗ WP c (loadR.bind k) Q) := by
  have hr : (rM : Memref sig .tc .vmem S2048x1 .i32).view.readAt (Elt F) (Rect.unit (s := S2048x1) ![0, 0] S2048x1.size inb_S2048x1_S2048x1_0_0).toLoadRect v = v :=
    Memref.readAt_unit_zero (Elt F) cc0_stg1_0 hz _ v
  simp only [loadR, Prog.lift, Prog.bind_op, Prog.bind_ret]
  iintro H Hk
  iapply (wp_load 𝒱₀ (c : Thread nD τ) none Set.univ (m := rM) (Finset.subset_univ _)) $$ H; iintro H
  rw [hr]
  iapply Hk; iexact H
theorem wp_loadW (v : Vec F S4x512x1024 .bf16) (j : Nat) (h : ∀ a, (![j, 0, 0] : Fin 3 → Nat) a + S1x512x1024.size a ≤ S4x512x1024.size a)
    (k : Vec F S1x512x1024 .bf16 → Act F PUnit) (Q : PUnit → sProp 𝕄) :
    (((c : Thread nD τ).loc cc0_stg2_0) ↦{fullShare} v : sProp 𝕄)
      ⊢ iprop(((((c : Thread nD τ).loc cc0_stg2_0) ↦{fullShare} v) -∗ WP c (k (slab v j h)) Q) -∗ WP c ((loadW wM j h).bind k) Q) := by
  simp only [loadW, Prog.lift, Prog.bind_op, Prog.bind_ret]
  iintro H Hk
  iapply (wp_load 𝒱₀ (c : Thread nD τ) none Set.univ (m := wM) (Finset.subset_univ _)) $$ H; iintro H
  iapply Hk; iexact H

/-- The own chunk, read at any contents (the value is not used), -/
theorem wp_peek (f : Buf (Elt F) ((c : Thread nD τ).loc cc0_scratch0)) (k : Act F PUnit) (Q : PUnit → sProp 𝕄) :
    pts c c fullShare f ⊢ iprop((pts c c fullShare f -∗ WP c k Q) -∗ WP c ((loadOwn comm c).bind fun _ => k) Q) := by
  simp only [loadOwn, Prog.lift, Prog.bind_op, Prog.bind_ret]
  unfold pts
  iintro H Hk
  iapply (wp_load 𝒱₀ (c : Thread nD τ) none Set.univ (m := comm) (by rw [own_rect' c]; exact rows_setOn c)) $$ H; iintro H
  iapply Hk; iexact H
theorem rows_access (q : Dev nD) : ((comm : Memref sig .tc .vmem S4096x1024 .bf16).access (rows q)).setOn Finset.univ ⊆ part q := by
  have h : ((comm : Memref sig .tc .vmem S4096x1024 .bf16).access (rows q)).set = part q := by
    show ((View.whole cc0_scratch0).slice _).set = _
    rw [View.set_slice]
    exact Finset.map_refl
  exact h.subset
theorem wp_storeRows (off : Fin 2 → Nat) (inb : ∀ a, off a + S128x1024.size a ≤ S4096x1024.size a)
    (hoff : off = ![128 * c.val, 0]) (f : Buf (Elt F) ((c : Thread nD τ).loc cc0_scratch0)) (k : PUnit → Act F PUnit) (Q : PUnit → sProp 𝕄)
    {h1} {h2} :
    pts c c fullShare f ⊢ iprop((pts c c fullShare (commAll m) -∗ WP c (k ⟨⟩) Q)
      -∗ WP c (.op (.store comm (Rect.unit (s := S4096x1024) off S128x1024.size inb) (chunkOf m c) Finset.univ h1 h2) k) Q) := by
  subst hoff
  rw [show pts c c fullShare (commAll m) = pts c c fullShare
      (((comm : Memref sig .tc .vmem S4096x1024 .bf16).access (rows c)).write (Elt F) f (chunkOf m c) Finset.univ) from
    pointsTo_congr fun i hi => (write_rows m c f i hi).symm]
  unfold pts
  iintro H Hk
  iapply (wp_store 𝒱₀ (c : Thread nD τ) none Set.univ (m := comm) (r := rows c) (Mk := Finset.univ) (rows_access c)) $$ H; iintro H
  iapply Hk; iexact H
/-- filled, -/
theorem wp_storeOwn (f : Buf (Elt F) ((c : Thread nD τ).loc cc0_scratch0)) (v : FVec F S128x1024 .bf16) (hv : v = chunkOf m c)
    (k : PUnit → Act F PUnit) (Q : PUnit → sProp 𝕄) :
    pts c c fullShare f ⊢ iprop((pts c c fullShare (commAll m) -∗ WP c (k ⟨⟩) Q) -∗ WP c ((storeOwn comm (Memref.isWhole_whole _) c v).bind k) Q) := by
  subst hv
  simp only [storeOwn, Prog.lift, Prog.bind_op, Prog.bind_ret]
  exact wp_storeRows m c _ _ (k0_off1_eq c) f k Q
/-- and read back. -/
theorem wp_loadOwn (sh : PosShare TreeShare) (k : Vec F S128x1024 .bf16 → Act F PUnit) (Q : PUnit → sProp 𝕄) :
    pts c c sh (commAll m) ⊢ iprop((pts c c sh (commAll m) -∗ WP c (k (chunkOf m c)) Q) -∗ WP c ((loadOwn comm c).bind k) Q) := by
  simp only [loadOwn, Prog.lift, Prog.bind_op, Prog.bind_ret]
  exact wp_loadRows m c c _ _ (k0_off1_eq c) sh k Q

/-! ## The whole body -/

/-- The result of device `c`: its own chunk's rows, then those of each chunk in the order of arrival. -/
def outAt : Vec F S2048x1024 .f32 :=
  steps.foldl (addChunk m c (colf (rstg m c))) (accum (meW c) (colf (rstg m c)) (chunkOf m c) (k0_pay16 (F := F)))

/-- The protocol's pieces that device `c` starts from: the record, its places at its own cells, the duties it fulfils. -/
def ghost : sProp 𝕄 :=
  iprop(records m K ∗ (bigSep Finset.univ fun k : Slot => atPos ER (kcell (c, k)) 0 ∅ 0)
    ∗ hold (fun i => dutyTok ER (barCell (ahead i c)) 0 c) steps
    ∗ hold (fun i => dutyTok ER (recvCell (ahead i c) i) 0 (ahead i c)) steps
    ∗ hold (fun i => dutyTok ER (sendCell c i) 0 c) steps)

/-- The credits it waits with. -/
def creds : sProp 𝕄 := iprop(cred (tallyAt (barCell c) () 31) ∗ hold (fun i => cred (tallyAt (recvCell c i) () N)) steps)

/-- The buffers staged for it. -/
def staged : sProp 𝕄 :=
  iprop((((c : Thread nD τ).loc cc0_stg0_0) ↦{fullShare} (xstg m c : Buf (Elt F) ((c : Thread nD τ).loc cc0_stg0_0)))
    ∗ (((c : Thread nD τ).loc cc0_stg1_0) ↦{fullShare} (rstg m c : Buf (Elt F) ((c : Thread nD τ).loc cc0_stg1_0)))
    ∗ (((c : Thread nD τ).loc cc0_stg2_0) ↦{fullShare} (wstg m c : Buf (Elt F) ((c : Thread nD τ).loc cc0_stg2_0))))

theorem pos_split (r : ℕ) : (bigSep Finset.univ fun k : Slot => (atPos ER (kcell (c, k)) r ∅ 0 : sProp 𝕄))
    = iprop(atPos ER (barCell c) r ∅ 0 ∗ hold (fun i => atPos ER (sendCell c i) r ∅ 0) steps ∗ hold (fun i => atPos ER (recvCell c i) r ∅ 0) steps) :=
  slots fun k : Slot => atPos ER (kcell (c, k)) r ∅ 0

/-- The cells closed: their counters at zero. -/
theorem close_all : iprop(records m K ∗ bigSep Finset.univ fun k : Slot => atPos ER (kcell (c, k)) 1 ∅ 0)
    ⊢ (|={Set.univ}=> bigSep Finset.univ fun k : Slot => semVal (kcell (c, k)) 0 : sProp 𝕄) := by
  have hpair : iprop(records m K ∗ bigSep Finset.univ fun k : Slot => atPos ER (kcell (c, k)) 1 ∅ 0)
      ⊢ (bigSep Finset.univ fun k : Slot => iprop(cellInv ER (ringRd m) (K (c, k)) (kcell (c, k)) ∗ atPos ER (kcell (c, k)) 1 ∅ 0) : sProp 𝕄) := by
    rw [bigSep_sep']
    exact sep_mono_left ((BI.bigSep_of_persistent Finset.univ (records m K)).trans (bigSep_mono fun k _ => inv_at m K (c, k)))
  exact hpair.trans (Rounds.cells_close ER (ringRd m) Finset.univ (fun k : Slot => kcell (c, k)) (fun k => K (c, k))
    (fun k _ => Set.mem_univ _) (fun k _ h => h) (fun _ => 1) (fun k _ => duties_later m (kcell (c, k))))

theorem wp_tail (cf : FVec F S2048x1 .f32) (v : Vec F S2048x1024 .f32) (Q : PUnit → sProp 𝕄) :
    iprop(records m K ∗ owing c 0 ∗ outPts c v ∗ pts c c (shareDrop fullShare 31) (commAll m)
        ∗ (hold (fun i => cred (tallyAt (recvCell c i) () N)) steps ∗ hold (fun i => atPos ER (recvCell c i) 0 ∅ 0) steps)
        ∗ (hold (fun i => cred (tallyAt (sendCell c i) () N)) steps ∗ hold (fun i => atPos ER (sendCell c i) 0 ∅ 0) steps))
      ⊢ iprop(((owing c 0 ∗ outPts c (steps.foldl (addChunk m c cf) (accum (meW c) cf (chunkOf m c) (k0_pay16 (F := F))))
            ∗ (((c : Thread nD τ).loc cc0_scratch0) ↦{fullShare} (commAll m))
            ∗ hold (fun i => atPos ER (sendCell c i) 1 ∅ 0) steps ∗ hold (fun i => atPos ER (recvCell c i) 1 ∅ 0) steps) -∗ WP c (Prog.ret ⟨⟩) Q)
          -∗ WP c (foldTail oM comm (Memref.isWhole_whole _) cc0_scratch1 cc0_scratch2 c cf) Q) := by
  have hlast : each (doneStep (F := F) comm (Memref.isWhole_whole _) cc0_scratch1 c) steps
      = (each (doneStep (F := F) comm (Memref.isWhole_whole _) cc0_scratch1 c) steps).bind Prog.ret := (Prog.bind_pure _).symm
  unfold foldTail
  rw [hlast, ← hold_sep, ← hold_sep]
  iintro ⟨#HR, HO, Hout, Hown, Hrecv, Hsend⟩ Hk
  iapply (wp_loadOut c v) $$ Hout; iintro Hout
  iapply (wp_storeOut c v) $$ Hout; iintro Hout
  iapply (wp_loadOwn m c) $$ Hown; iintro Hown
  iapply (wp_loadOut c _) $$ Hout; iintro Hout
  iapply (wp_loadOut c _) $$ Hout; iintro Hout
  iapply (wp_storeOut c _) $$ Hout; iintro Hout
  iapply (wp_recvs m K c cf _) $$ [HO Hout Hrecv]
  · isplitr [Hrecv]
    · isplitr; · iexact HR
      isplitl [HO] <;> iassumption
    · iexact Hrecv
  iintro ⟨⟨-, HO, Hout⟩, Hrecv⟩
  iapply (wp_dones m K c) $$ [HO Hsend]
  · isplitr [Hsend]
    · isplitr; · iexact HR
      iexact HO
    · iexact Hsend
  iintro ⟨⟨-, HO⟩, Hsend⟩
  ihave Hr := (Entails.of_eq (hold_sep (recvPay m c) (fun i => atPos ER (recvCell c i) 1 ∅ 0) steps)) $$ Hrecv
  ihave Hs := (Entails.of_eq (hold_sep (sendPay m c) (fun i => atPos ER (sendCell c i) 1 ∅ 0) steps)) $$ Hsend
  icases Hr with ⟨Hr1, Hr2⟩
  icases Hs with ⟨Hs1, Hs2⟩
  iapply Hk
  isplitl [HO]; · iexact HO
  isplitl [Hout]; · iexact Hout
  isplitl [Hown Hs1 Hr1]
  · iapply (join m c)
    isplitl [Hown]; · iexact Hown
    isplitl [Hs1] <;> iassumption
  isplitl [Hs2] <;> iassumption

theorem run_body (f : Buf (Elt F) ((c : Thread nD τ).loc cc0_scratch0)) (v : Vec F S2048x1024 .f32) (Q : PUnit → sProp 𝕄) :
    iprop(ghost m K c ∗ creds c ∗ levAts L lv ∗ owing c (O₀ c) ∗ (((c : Thread nD τ).loc cc0_scratch0) ↦{fullShare} f) ∗ staged m c ∗ outPts c v)
      ⊢ iprop(((owing c 0 ∗ (((c : Thread nD τ).loc cc0_scratch0) ↦{fullShare} (commAll m))
            ∗ (bigSep Finset.univ fun k : Slot => semVal (kcell (c, k)) 0) ∗ staged m c ∗ outPts c (outAt m c)) -∗ Q ⟨⟩)
          -∗ WP c (foldBody xM rM wM oM comm (Memref.isWhole_whole _) cc0_scratch1 cc0_scratch2) Q) := by
  unfold ghost creds staged foldBody
  rw [pos_split]
  iintro ⟨⟨#HR, ⟨HatB, HatS, HatV⟩, HtB, HtV, HtS⟩, ⟨HcB, HcV⟩, #Hlev, HO, Hscr, ⟨Hx, Hr, Hw⟩, Hout⟩ Hk
  ihave Hs := (cut c f) $$ Hscr
  icases Hs with ⟨Hown, Hgive⟩
  iapply (wp_device c)
  -- the signals, each with the chunk that its addressee writes
  iapply (wp_signals m K c) $$ [HO HtB Hgive]
  · isplitl [HO]
    · isplitr; · iexact HR
      iexact HO
    · rw [hold_sep]
      isplitl [HtB] <;> iassumption
  iintro ⟨⟨-, HO⟩, -⟩
  ihave HO := (show owing c (oweRecv c steps + oweBar c []) ⊢ (owing c (oweRecv c steps) : sProp 𝕄) from Entails.of_eq (by rw [oweBar_nil, add_zero])) $$ HO
  -- the barrier
  iapply (wp_barrier m K c) $$ [HO HcB HatB]
  · isplitr; · iexact HR
    isplitr; · iexact Hlev
    isplitl [HO]; · iexact HO
    isplitl [HcB] <;> iassumption
  iintro ⟨HO, HatB, Hget⟩
  -- the own chunk
  iapply (wp_loadR c (rstg m c)) $$ Hr; iintro Hr
  iapply (wp_loadX c (xstg m c)) $$ Hx; iintro Hx
  iapply (wp_loadW c (wstg m c)) $$ Hw; iintro Hw
  iapply (wp_loadW c (wstg m c)) $$ Hw; iintro Hw
  iapply (wp_loadW c (wstg m c)) $$ Hw; iintro Hw
  iapply (wp_loadW c (wstg m c)) $$ Hw; iintro Hw
  iapply (wp_peek c f) $$ Hown; iintro Hown
  iapply (wp_storeOwn m c f _ rfl) $$ Hown; iintro Hown
  -- its transfers
  ihave Hs := (share m c) $$ Hown
  icases Hs with ⟨Hown, Htok⟩
  iapply (wp_sends m K c) $$ [HO HtS HtV Htok Hget]
  · isplitl [HO]
    · isplitr; · iexact HR
      iexact HO
    · rw [hold_sep, hold_sep, hold_sep]
      isplitl [HtS]; · iexact HtS
      isplitl [HtV]; · iexact HtV
      isplitl [Htok] <;> iassumption
  iintro ⟨⟨-, HO⟩, HcS⟩
  -- the sum
  iapply (wp_tail m K c (colf (rstg m c)) v) $$ [HO Hout Hown HcV HatV HcS HatS]
  · isplitr; · iexact HR
    isplitl [HO]; · iexact HO
    isplitl [Hout]; · iexact Hout
    isplitl [Hown]; · iexact Hown
    isplitl [HcV HatV]
    · isplitl [HcV] <;> iassumption
    · isplitl [HcS] <;> iassumption
  iintro ⟨HO, Hout, Hscr, HatS, HatV⟩
  imod (close_all m K c) $$ [HatB HatS HatV] with Hz
  · isplitr; · iexact HR
    rw [pos_split]
    isplitl [HatB]; · iexact HatB
    isplitl [HatS] <;> iassumption
  rw [wp_ret]; imodintro
  iapply Hk
  isplitl [HO]; · iexact HO
  isplitl [Hscr]; · iexact Hscr
  isplitl [Hz]; · iexact Hz
  isplitl [Hx Hr Hw]
  · isplitl [Hx]; · iexact Hx
    isplitl [Hr] <;> iassumption
  · iexact Hout

end

end Cert.Dispatch

end
-- ==== Proof.Run.lean ====
/-
# The launch and the run

What each device is dealt at launch (its cells, their positions, the duties it fulfils, the credits it waits with), and
from it the run of the whole program on 32 devices: every device's result is the sum over the chunks (`outAt`), its
arguments are unchanged, and every counter is zero.
-/
module

public import proofs.«01_k».proof.Proof.Sound
public import Idealize.ShloMosaic.Lib.Pipeline.CollectiveSegs
public import Idealize.ShloMosaic.Lib.Quiescent
public import Idealize.ShloMosaic.Lib.Pipeline.Value

@[expose] public section

noncomputable section

namespace Cert.Dispatch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-! ## The body under the pipeline -/

/-- What device `c` starts from. -/
def start (c : Dev nD) : sProp 𝕄 := iprop((∃ K, ghost m K c) ∗ creds c ∗ levAts L lv)

/-- The communication buffer of device `c`, whole. -/
def scr (c : Dev nD) (f : Buf (Elt F) ((c : Thread nD τ).loc cc0_scratch0)) : sProp 𝕄 := ((c : Thread nD τ).loc cc0_scratch0) ↦{fullShare} f

def Φ₀ (c : Dev nD) : sProp 𝕄 := iprop(start m c ∗ ∃ f, scr c f)
/-- After the body: the buffer filled, and every cell closed. -/
def Φ₁ (c : Dev nD) : sProp 𝕄 := iprop(scr c (commAll m) ∗ bigSep Finset.univ fun k : Slot => semVal (kcell (c, k)) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => rstg m c
    | ⟨2, _⟩ => wstg m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem fetches0 : (cfg0.win (0 : Fin 4)).fetch t0_0 = true := rfl
theorem fetches1 : (cfg0.win (1 : Fin 4)).fetch t0_0 = true := rfl
theorem fetches2 : (cfg0.win (2 : Fin 4)).fetch t0_0 = true := rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost (c : Dev nD) : sProp 𝕄 :=
  iprop(Φ₁ m c ∗ (dats m 0 c).owesAt () t0_0.succ ∗ stg c cc0_stg0_0 (xstg m c) ∗ stg c cc0_stg1_0 (rstg m c)
    ∗ stg c cc0_stg2_0 (wstg m c) ∗ stg c cc0_stg3_0 (outAt m c))

theorem sound_body (c : Dev nD) : bodyPre m c
    ⊢ WP c (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_scratch0) (Memref.isWhole_whole _) cc0_scratch1 cc0_scratch2) fun _ => bodyPost m c := by
  rw [cc0_body_eq_skeleton, cc0_body_eq_fold]
  unfold bodyPre Φ₀ start scr
  iintro ⟨⟨⟨⟨%K, Hg⟩, Hc, Hlev⟩, ⟨%f, Hscr⟩⟩, Ho, ⟨%d0, %g0, %hg0, Hx⟩, ⟨%d1, %g1, %hg1, Hr⟩, ⟨%d2, %g2, %hg2, Hw⟩, ⟨%d3, %g3, %hg3, Hout⟩⟩
  have hx : g0 = xstg m c := by rw [hg0]; unfold Dat.before; rw [if_pos fetches0]; rfl
  have hr : g1 = rstg m c := by rw [hg1]; unfold Dat.before; rw [if_pos fetches1]; rfl
  have hw : g2 = wstg m c := by rw [hg2]; unfold Dat.before; rw [if_pos fetches2]; rfl
  subst hx hr hw
  unfold Dat.owesAt Pipeline.owesWithin
  icases Ho with ⟨%W, %hW, HO⟩
  rw [show (dats m 0 c).owed t0_0.castSucc = O₀ c from rfl]
  iapply (run_body m K c f g3 fun _ => bodyPost m c) $$ [Hg Hc Hlev HO Hscr Hx Hr Hw Hout]
  · isplitl [Hg]; · iexact Hg
    isplitl [Hc]; · iexact Hc
    isplitl [Hlev]; · iexact Hlev
    isplitl [HO]; · unfold owing; iexists W; iexact HO
    isplitl [Hscr]; · iexact Hscr
    isplitl [Hx Hr Hw]
    · unfold staged
      isplitl [Hx]; · iexact Hx
      isplitl [Hr] <;> iassumption
    · unfold outPts; iexact Hout
  unfold staged outPts owing
  iintro ⟨⟨%W', HO⟩, Hscr, Hz, ⟨Hx, Hr, Hw⟩, Hout⟩
  unfold bodyPost Φ₁ scr Dat.owesAt Pipeline.owesWithin
  rw [show (dats m 0 c).owed t0_0.succ = 0 from rfl]
  isplitl [Hscr Hz]
  · isplitl [Hscr] <;> iassumption
  isplitl [HO]
  · iexists W'
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hw]
  · iexists _; isplitr; · (ipureintro; rfl)
    iexact Hw
  iexists _; isplitr; · (ipureintro; rfl)
  iexact Hout

set_option maxRecDepth 65536 in
theorem body_obligation (c : Dev nD) : BodyObligation (dats (F := F) m 0 c) (defs₀ (F := F)) 𝒱₀ () Set.univ := fun t => by
  rw [fin_N0 t]
  rw [bigSep_W0, bigSep_W0]
  simp only [owns_whole]
  show bodyPre m c ⊢ wp frame (wpE (defs₀ (F := F)) 𝒱₀ c none) Set.univ
    (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_scratch0) (Memref.isWhole_whole _) cc0_scratch1 cc0_scratch2) (fun _ => bodyPost m c)
  exact sound_body m c

/-! ## What is dealt at launch -/

theorem share_eq (c : Dev nD) (w : Fin cfg0.W) : (dats m 0 c).share w = fullShare := by unfold Dat.share; split <;> rfl

def ringCells : Finset (GSem nD τ sig) := Finset.univ.map ⟨kcell, kcell_injective⟩

/-- A device's duties as they are minted: those of its barrier, by their payers, and the one of each other semaphore. -/
abbrev Duty : Type := Fin 31 ⊕ (Bool × Fin 31)
def tokOf (cj : Dev nD × Duty) : GSem nD τ sig × ℕ × Dev nD := match cj.2 with
  | .inl i => (barCell cj.1, 0, back i cj.1)
  | .inr k => (kcell (cj.1, .inr k), 0, cj.1)

theorem back_inj {i j : Fin 31} {c : Dev nD} (h : back i c = back j c) : i = j := by
  rw [← stepTo_back i c, ← stepTo_back j c, h]

theorem tokOf_injective : Function.Injective tokOf := by
  rintro ⟨c, j⟩ ⟨c', j'⟩ h
  have hc : c = c' := by
    have := congrArg (fun x : GSem nD τ sig × ℕ × Dev nD => x.1.1.1) h
    cases j <;> cases j' <;> exact this
  subst hc
  have hsem := congrArg (fun x : GSem nD τ sig × ℕ × Dev nD => x.1.2) h
  cases j with
  | inl i => cases j' with
    | inl i' => rw [back_inj (congrArg (fun x : GSem nD τ sig × ℕ × Dev nD => x.2.2) h)]
    | inr k' => exact absurd (csem_injective (show csem (.inl ()) = csem (.inr k') from hsem)) (fun h => by cases h)
  | inr k => cases j' with
    | inl i' => exact absurd (csem_injective (show csem (.inr k) = csem (.inl ()) from hsem)) (fun h => by cases h)
    | inr k' => rw [Sum.inr_injective (csem_injective (show csem (.inr k) = csem (.inr k') from hsem))]
def ringToks : Finset (GSem nD τ sig × ℕ × Dev nD) := Finset.univ.map ⟨tokOf, tokOf_injective⟩

def u₀ : UU := (initOf (Pipeline.cells cfgs cellOf_inj) (Pipeline.launchToks cfgs cellOf_inj), initOf ringCells ringToks)

/-- The duties at device `c`'s own cells, -/
def toks (c : Dev nD) : sProp 𝕄 :=
  iprop((bigSep Finset.univ fun i => dutyTok ER (barCell c) 0 (back i c)) ∗ (bigSep Finset.univ fun i => dutyTok ER (sendCell c i) 0 c)
    ∗ bigSep Finset.univ fun i => dutyTok ER (recvCell c i) 0 c)
/-- and those that it fulfils. -/
def payToks (c : Dev nD) : sProp 𝕄 :=
  iprop((bigSep Finset.univ fun i => dutyTok ER (barCell (ahead i c)) 0 c) ∗ (bigSep Finset.univ fun i => dutyTok ER (recvCell (ahead i c) i) 0 (ahead i c))
    ∗ bigSep Finset.univ fun i => dutyTok ER (sendCell c i) 0 c)

/-- A family over the devices and the steps may be counted from either end of a step. -/
theorem around (Φ : Fin 31 → Dev nD → sProp 𝕄) : (bigSep Finset.univ fun c : Dev nD => bigSep Finset.univ fun i => Φ i c)
    = bigSep Finset.univ fun c : Dev nD => bigSep Finset.univ fun i => Φ i (ahead i c) := by
  rw [bigSep_univ_comm, bigSep_univ_comm (fun (c : Dev nD) i => Φ i (ahead i c))]
  exact bigSep_congr fun i _ => bigSep_univ_equiv (turn i) (Φ i)

theorem toks_around : (bigSep Finset.univ fun c : Dev nD => (toks c : sProp 𝕄)) ⊢ bigSep Finset.univ fun c : Dev nD => payToks c := by
  unfold toks payToks
  rw [bigSep_sep', bigSep_sep', bigSep_sep', bigSep_sep', around fun i c => dutyTok ER (barCell c) 0 (back i c),
    around fun i c => dutyTok ER (recvCell c i) 0 c]
  simp only [back_ahead]
  iintro ⟨H1, H2, H3⟩
  isplitl [H1]; · iexact H1
  isplitl [H3] <;> iassumption

/-- What the launch deals device `c`. -/
def G (c : Dev nD) : sProp 𝕄 :=
  iprop((bigSep Finset.univ fun k : Slot => roundState ER (ringRd m) (kcell (c, k)) 0)
    ∗ (bigSep Finset.univ fun k : Slot => iprop(atPos ER (kcell (c, k)) 0 ∅ 0 ∗ reached ER (kcell (c, k)) 0)) ∗ toks c)
/-- What is made of it once every cell has its invariant. -/
def G' (c : Dev nD) : sProp 𝕄 := iprop(∃ K, ghost m K c)

theorem duties_split (Φ : Duty → sProp 𝕄) : bigSep Finset.univ Φ = iprop((bigSep Finset.univ fun i => Φ (.inl i))
    ∗ (bigSep Finset.univ fun i => Φ (.inr (false, i))) ∗ bigSep Finset.univ fun i => Φ (.inr (true, i))) := by
  rw [bigSep_univ_sum, bigSep_univ_prod, bigSep_univ_eq_bigSepL [false, true] (by decide) (by decide), bigSepL_cons_cons, bigSepL_singleton]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Slot => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [duties_split]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) : (bigSep Finset.univ fun k : Slot => (semVal (kcell (c, k)) 0 : sProp 𝕄))
    = iprop(unscopedSems0 c ∗ Pipeline.ownSems0 (Ix := Unit) (Name := ℕ) (U := UU) (Lvl := ℕ) (Val := Elt F) (τ := τ) osem c) := by
  rw [unscopedSems0_eq, bigSep_univ_sum, bigSep_univ_eq_bigSepL [()] (by decide) (by decide), bigSepL_singleton]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Slot => iprop(∃ κ : ℕ, cellInv ER (ringRd m) κ (kcell (c, k))))
          ∗ (bigSep Finset.univ fun k : Slot => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Slot => semVal (kcell (c, k)) 0) ∗ bigSep Finset.univ fun k : Slot => roundState ER (ringRd m) (kcell (c, k)) 0)
      ⊢ (|={Set.univ}=> bigSep Finset.univ fun k : Slot => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Slot → ℕ) (c : Dev nD) :
    iprop(records m K ∗ ((bigSep Finset.univ fun k : Slot => atPos ER (kcell (c, k)) 0 ∅ 0) ∗ payToks c)) ⊢ G' m c := by
  unfold payToks G' ghost
  rw [hold_steps, hold_steps, hold_steps]
  iintro H
  iexists K
  iexact H

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Slot => iprop(∃ κ : ℕ, cellInv ER (ringRd m) κ (kcell (c, k))))
          ∗ (bigSep Finset.univ fun k : Slot => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Slot => iprop(∃ κ : ℕ, cellInv ER (ringRd m) κ (kcell ck))),
    bigSep_congr (s := Finset.univ) (fun (c : Dev nD) _ => bigSep_sep' Finset.univ (fun k : Slot => (atPos ER (kcell (c, k)) 0 ∅ 0 : sProp 𝕄)) (fun k => reached ER (kcell (c, k)) 0)),
    bigSep_sep', ← bigSep_univ_prod (fun ck : Dev nD × Slot => (reached ER (kcell ck) 0 : sProp 𝕄))]
  iintro ⟨HI, ⟨Hat, #HR⟩, Htok⟩
  ihave HK := (BI.bigSep_exists_pi Finset.univ (fun (ck : Dev nD × Slot) (κ : ℕ) => (cellInv ER (ringRd m) κ (kcell ck) : sProp 𝕄))) $$ HI
  icases HK with ⟨%K, #HI⟩
  ihave Htk := (toks_around (F := F)) $$ Htok
  iapply (with_persistent (R := records m K) fun c _ => ghost_intro m K c)
  isplitr
  · unfold records; isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The credits -/

theorem cell_ne {a b : Dev nD} {s s' : SemLoc sig} (h : s ≠ s') : ((a : Thread nD τ), s) ≠ ((b : Thread nD τ), s') := fun e => h (congrArg Prod.snd e)

/-- A tally at a cell of device `a`, summed over the devices that step `i` takes to `a`: counted once. -/
theorem sum_tally (sm : SemLoc sig) (i : Fin 31) (k : ℕ) (c : Dev nD) :
    ∑ d : Dev nD, (tallyAt ((ahead i d : Thread nD τ), sm) () k : CellTallies nD τ sig Unit) ((c : Thread nD τ), sm) () = k := by
  rw [Finset.sum_eq_single (back i c)]
  · rw [ahead_back, tallyAt_apply, if_pos ⟨rfl, rfl⟩]
  · intro d _ hd
    rw [tallyAt_apply, if_neg fun e => hd ?_]
    have h : c = ahead i d := congrArg (fun g : GSem nD τ sig => g.1.1) e.1
    rw [h, back_ahead]
  · exact fun h => absurd (Finset.mem_univ _) h

theorem sum_oweBar (c : Dev nD) : ∀ l : List (Fin 31), ∑ d : Dev nD, oweBar d l (barCell c) () = l.length
  | [] => Finset.sum_eq_zero fun _ _ => rfl
  | i :: l => by
    simp only [oweBar_cons, Pi.add_apply, Finsupp.add_apply, Finset.sum_add_distrib]
    rw [sum_oweBar c l, sum_tally]; rfl
theorem oweBar_recv (d c : Dev nD) (j : Fin 31) : ∀ l : List (Fin 31), oweBar d l (recvCell c j) () = 0
  | [] => rfl
  | i :: l => by
    rw [oweBar_cons, Pi.add_apply, Finsupp.add_apply, oweBar_recv d c j l, tallyAt_ne_cell (cell_ne fun e => by cases e), Finsupp.zero_apply, Nat.add_zero]
theorem oweRecv_bar (d c : Dev nD) : ∀ l : List (Fin 31), oweRecv d l (barCell c) () = 0
  | [] => rfl
  | i :: l => by
    rw [oweRecv_cons, Pi.add_apply, Finsupp.add_apply, oweRecv_bar d c l, tallyAt_ne_cell (cell_ne fun e => by cases e), Finsupp.zero_apply, Nat.add_zero]
theorem sum_oweRecv (c : Dev nD) (j : Fin 31) : ∀ l : List (Fin 31), ∑ d : Dev nD, oweRecv d l (recvCell c j) () = l.count j * N
  | [] => (Finset.sum_eq_zero fun _ _ => rfl).trans (Nat.zero_mul N).symm
  | i :: l => by
    simp only [oweRecv_cons, Pi.add_apply, Finsupp.add_apply, Finset.sum_add_distrib]
    rw [sum_oweRecv c j l]
    by_cases h : i = j
    · subst h
      rw [sum_tally, List.count_cons_self, Nat.succ_mul]
    · rw [List.count_cons_of_ne h, Finset.sum_eq_zero fun d _ => ?_, Nat.add_zero]
      have hs : recvS i ≠ recvS j := fun e => h (by rw [← placeOf_recv i, ← placeOf_recv j, e])
      rw [tallyAt_ne_cell (cell_ne fun e => hs (by injection e with e; exact e.symm)), Finsupp.zero_apply]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same]
  unfold O₀
  simp only [Pi.add_apply, Finsupp.add_apply, Finset.sum_add_distrib]
  rw [sum_oweBar, Finset.sum_eq_zero fun d _ => oweRecv_bar d c steps]
  decide
theorem launch_recv (c : Dev nD) (j : Fin 31) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same]
  unfold O₀
  simp only [Pi.add_apply, Finsupp.add_apply, Finset.sum_add_distrib]
  rw [sum_oweRecv, Finset.sum_eq_zero fun d _ => oweBar_recv d c j steps, List.count_eq_one_of_mem steps_nodup (mem_steps j), Nat.one_mul, Nat.add_zero]

theorem creds_intro (c : Dev nD) : (Pipeline.launchCred O₀ c : sProp 𝕄) ⊢ creds c := by
  have h (Φ : SemLoc sig → sProp 𝕄) : bigSep Finset.univ Φ ⊢ bigSep Finset.univ fun k : Slot => Φ (csem k) := by
    rw [show (bigSep Finset.univ fun k : Slot => Φ (csem k)) = bigSep (Finset.univ.map ⟨csem, csem_injective⟩) Φ from by rw [bigSep_map]; rfl]
    exact bigSep_subset (Finset.subset_univ _)
  unfold Pipeline.launchCred creds
  refine (h _).trans ?_
  rw [slots]
  iintro ⟨HB, -, HV⟩
  isplitl [HB]
  · rw [← launch_bar]; iexact HB
  · rw [show (fun i => cred (tallyAt (recvCell c i) () N)) = fun i => (cred (tallyOn (recvCell c i) (launchCredit (Pipeline.owing O₀) 0 (recvCell c i))) : sProp 𝕄) from
      funext fun i => by rw [launch_recv]]
    iexact HV

/-! ### What enters and leaves the region -/

/-- The gate array, which no window holds: kept aside. -/
def gates (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ gates m c) := by
  rw [Pipeline.unscopedRestP_none, unscopedRest0_eq]
  unfold start G' gates
  iintro ⟨Hz, Hlev, Hcr, -, HG⟩
  ihave Hc := (creds_intro (F := F) c) $$ Hcr
  imodintro
  isplitr [Hz]
  · isplitl [HG]; · iexact HG
    isplitl [Hc]; · iexact Hc
    iexact Hlev
  · iexact Hz

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq]
  unfold Φ₁ scr
  rw [sems0_eq]
  iintro ⟨Hr, Hu, Ho⟩
  isplitl [Hu]; · iexact Hu
  isplitl [Ho]; · iexact Ho
  iexists _; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

/-- What a final state holds on every device: the windows' arrays, the gate array, and zero counters. -/
def Done (r : PUnit × MemSt nD τ sig (Elt F)) : Prop :=
  (∀ c : Dev nD, (∀ w : Fin cfg0.W, r.2.mem ((cfg0.win w).arr.view.loc (c : Thread nD τ)) = finalA m c w)
    ∧ r.2.mem ((c : Thread nD τ).loc main_arg1) = m ((c : Thread nD τ).loc main_arg1)) ∧ r.2.sem = fun _ => 0

set_option maxRecDepth 65536 in
theorem run_windows : θ_run defs (onTc (τ := τ) (main (F := F))) (s₀ m ρ) (Done m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := gates m)
    (hX := start_intro m ρ) (hin := phi0_intro m) (hout := phi1_exit m)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      unfold gates
      iintro ⟨Hu, Hz, HSI⟩
      icombine HSI Hz gives %h
      have h1 := Buf.eq_of_forall_mem_univ h
      imod (Pipeline.unscopedSems0_read (X := unscopedSems0 c) (c := c) fupd_intro s') $$ [Hu HSI] with ⟨%h2, HSI⟩
      · isplitl [Hu] <;> iassumption
      imodintro
      isplitr
      · ipureintro; exact ⟨h1, h2⟩
      iexact HSI)
    (hQ := fun _ h hs => ⟨fun c => ⟨fun w => (h c).1 w, (h c).2.2.1⟩, sem_eq_zero hs fun c => (h c).2.2.2⟩)

/-- A window's one block is its whole array. -/
theorem blk_emb0 (x : S2048x512.Idx) : (win0_0.blk (0 : Fin 1)).view.emb x = x := by
  refine funext fun a => Fin.ext ?_
  fin_cases a <;> exact (Nat.zero_add _).trans (Nat.one_mul _)
theorem blk_emb1 (x : S2048x1.Idx) : (win0_1.blk (0 : Fin 1)).view.emb x = x := by
  refine funext fun a => Fin.ext ?_
  fin_cases a <;> exact (Nat.zero_add _).trans (Nat.one_mul _)
theorem blk_emb2 (x : S4x512x1024.Idx) : (win0_2.blk (0 : Fin 1)).view.emb x = x := by
  refine funext fun a => Fin.ext ?_
  fin_cases a <;> exact (Nat.zero_add _).trans (Nat.one_mul _)
theorem blk_emb3 (x : S2048x1024.Idx) : (win0_3.blk (0 : Fin 1)).view.emb x = x := by
  refine funext fun a => Fin.ext ?_
  fin_cases a <;> exact (Nat.zero_add _).trans (Nat.one_mul _)

theorem flushed_out (c : Dev nD) : (dats m 0 c).flushed 3 t0_0 = ((cfg0.win 3).blk t0_0).view.read (Elt F) (outAt m c) := by
  have h : (dats m 0 c).after 3 t0_0 = outAt m c := rfl
  unfold Dat.flushed
  rw [h]
  generalize outAt m c = G
  exact funext fun x => (congrArg G (blk_emb3 x)).symm

theorem cover_out (i : S2048x1024.Idx) : ∃ t : Fin cfg0.N, (cfg0.win 3).flush t = true ∧ i ∈ ((cfg0.win 3).blk t).view.set :=
  ⟨t0_0, rfl, (congrArg (· ∈ (win0_3.blk (0 : Fin 1)).view.set) (blk_emb3 i)).mp ((win0_3.blk (0 : Fin 1)).view.emb_mem_set i)⟩

theorem finalA_out (c : Dev nD) : finalA m c 3 = outAt m c :=
  (dats m 0 c).arrAt_eq_of_cover 3 (outAt m c) (fun t _ => by rw [fin_N0 t]; exact flushed_out m c) cover_out

/-- From any memory with zero counters every weakly fair execution terminates, with each device's result the sum over
    the chunks, its arguments unchanged and every counter zero. -/
theorem run_main : θ_run defs (onTc (τ := τ) (main (F := F))) ⟨m, fun _ => 0, ρ⟩ fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0 :=
  (θ_run defs _ _).mono (fun _ h => ⟨fun c => ⟨((h.1 c).1 3).trans (finalA_out m c), ((h.1 c).1 0).trans ((dats m 0 c).arrAt_in 0 rfl _),
      (h.1 c).2, ((h.1 c).1 1).trans ((dats m 0 c).arrAt_in 1 rfl _), ((h.1 c).1 2).trans ((dats m 0 c).arrAt_in 2 rfl _)⟩, h.2⟩)
    (run_windows m ρ)

end Cert.Dispatch

end
-- ==== Proof.Value.lean ====
/-
# The value of the result

At the extended reals, under the precondition. Token `n` goes to expert `R n`, which its device `R n / 4` holds, and takes
there the slot that counts the earlier tokens of that device. Row `slot` of that device's chunk is then the product of
token `n` with its expert, and of the 32 accumulations exactly the one of device `R n / 4` adds that row to row `n` of the
result; the others add zero. A product with zero is zero and sums commute at the extended reals, so nothing here asks the
tokens or the experts to be finite.
-/
module

public import proofs.«01_k».proof.Proof.Fold
public import Idealize.ShloMosaic.PureOps.Ideal
public import Idealize.ShloMosaic.Lib.Pointwise
public import Idealize.ShloMosaic.Lib.WordCmp

@[expose] public section

set_option maxRecDepth 16384

noncomputable section

namespace Cert.Dispatch

open Cert.KernelIdeal Cert.KernelIdeal.Gen
open Idealize.ShloMosaic Idealize.ShloMosaic.TcCoe Idealize.SL.Sem
open Idealize.ShloMosaic.WordCmp

/-! ## Words and constants -/

/-- A bit turned into a number. -/
theorem bit_val (φ : FTy) (P : Prop) [Decidable P] :
    (FloatOps.sitofp (F := Ideal) φ (BitVec.setWidth 32 (BitVec.ofBool (decide P))) : EReal) = if P then 1 else 0 := by
  by_cases h : P
  · rw [if_pos h, decide_eq_true h]
    exact congrArg (fun z : ℤ => (((z : ℤ) : ℝ) : EReal)) (show (BitVec.setWidth 32 (BitVec.ofBool true)).toInt = 1 by decide) |>.trans (by simp)
  · rw [if_neg h, decide_eq_false h]
    exact congrArg (fun z : ℤ => (((z : ℤ) : ℝ) : EReal)) (show (BitVec.setWidth 32 (BitVec.ofBool false)).toInt = 0 by decide) |>.trans (by simp)

theorem word_int {k : ℕ} (h : k < 2 ^ 31) : (BitVec.ofNat 32 k).toInt = k := by
  rw [BitVec.toInt_eq_toNat_of_lt (by rw [BitVec.toNat_ofNat, Nat.mod_eq_of_lt (by omega)]; omega), BitVec.toNat_ofNat, Nat.mod_eq_of_lt (by omega)]

/-- A small word turned into a number. -/
theorem word_val (φ : FTy) {k : ℕ} (h : k < 2 ^ 31) : (FloatOps.sitofp (F := Ideal) φ (BitVec.ofNat 32 k) : EReal) = ((k : ℝ) : EReal) := by
  show (((BitVec.ofNat 32 k).toInt : ℝ) : EReal) = _
  rw [word_int h]
  simp

theorem val_two : Ideal.ofBits .f32 0x40000000#32 = ((2 : ℝ) : EReal) := by simp [Ideal.ofBits, Ideal.ieee, -EReal.coe_mul]; norm_num
theorem val_three : Ideal.ofBits .f32 0x40400000#32 = ((3 : ℝ) : EReal) := by simp [Ideal.ofBits, Ideal.ieee, -EReal.coe_mul]; norm_num
theorem val_four : Ideal.ofBits .f32 0x40800000#32 = ((4 : ℝ) : EReal) := by simp [Ideal.ofBits, Ideal.ieee, -EReal.coe_mul]; norm_num
theorem val_cap : Ideal.ofBits .f32 0x43000000#32 = ((128 : ℝ) : EReal) := by simp [Ideal.ofBits, Ideal.ieee, -EReal.coe_mul]; norm_num

/-! ## Where a token goes -/

/-- The slot of token `n` at its device: how many earlier tokens that device is sent. -/
def slot (R : Fin 2048 → Fin 128) (n : Fin 2048) : ℕ := (Finset.univ.filter fun k : Fin 2048 => k < n ∧ (R k).val / 4 = (R n).val / 4).card

/-- Every device is sent at most 128 tokens. -/
def Fits (R : Fin 2048 → Fin 128) : Prop := ∀ n : Fin 2048, (Finset.univ.filter fun k : Fin 2048 => (R k).val / 4 = (R n).val / 4).card ≤ 128

/-- The indices are the words of `R`. -/
def Names (r : IVec S2048x1 32) (R : Fin 2048 → Fin 128) : Prop := ∀ n : Fin 2048, r (ix2 n 0) = BitVec.ofNat 32 (R n).val

variable {R : Fin 2048 → Fin 128}

theorem slot_lt (hf : Fits R) (n : Fin 2048) : slot R n < 128 := by
  refine Nat.lt_of_lt_of_le (Finset.card_lt_card ?_) (hf n)
  refine Finset.ssubset_iff_of_subset (fun k hk => ?_) |>.2 ⟨n, ?_, ?_⟩
  · exact Finset.mem_filter.2 ⟨Finset.mem_univ _, (Finset.mem_filter.1 hk).2.2⟩
  · exact Finset.mem_filter.2 ⟨Finset.mem_univ _, rfl⟩
  · exact fun h => lt_irrefl _ (Finset.mem_filter.1 h).2.1

theorem slot_lt_of_lt {a b : Fin 2048} (h : a < b) (ho : (R a).val / 4 = (R b).val / 4) : slot R a < slot R b := by
  refine Finset.card_lt_card (Finset.ssubset_iff_of_subset (fun k hk => ?_) |>.2 ⟨a, ?_, ?_⟩)
  · have hk := (Finset.mem_filter.1 hk).2
    exact Finset.mem_filter.2 ⟨Finset.mem_univ _, lt_trans hk.1 h, hk.2.trans ho⟩
  · exact Finset.mem_filter.2 ⟨Finset.mem_univ _, h, ho⟩
  · exact fun h => lt_irrefl _ (Finset.mem_filter.1 h).2.1

/-- Two tokens of one device take different slots. -/
theorem slot_inj {a b : Fin 2048} (hs : slot R a = slot R b) (ho : (R a).val / 4 = (R b).val / 4) : a = b := by
  rcases lt_trichotomy a b with h | h | h
  · exact absurd hs (slot_lt_of_lt h ho).ne
  · exact h
  · exact absurd hs (slot_lt_of_lt h ho.symm).ne'

/-! ## The routing that the kernel computes -/

abbrev q1 (r : IVec S2048x1 32) := k0_pay1 (F := Ideal) r
abbrev q2 (r : IVec S2048x1 32) := k0_pay2 (F := Ideal) r
abbrev q3 (r : IVec S2048x1 32) := k0_pay3 (F := Ideal) r

theorem owner_word : ∀ k : Fin 128, ∀ w, w = BitVec.ofNat 32 k.val →
    Scalar.select
      (IntOp.andi
        (IntOp.cmpi CmpIPredicate.ne
          (IntOp.subi (BitVec.setWidth 32 (IntOp.cmpi CmpIPredicate.sgt w 0#32))
            (BitVec.setWidth 32 (IntOp.cmpi CmpIPredicate.slt w 0#32)))
          (Scalar.subi (Scalar.extui (Scalar.cmpi CmpIPredicate.sgt 4#32 0#32))
            (Scalar.extui (Scalar.cmpi CmpIPredicate.slt 4#32 0#32))))
        (IntOp.cmpi CmpIPredicate.ne (IntOp.remsi ArithUnit.vector w 4#32) 0#32))
      (IntOp.subi (IntOp.divsi ArithUnit.vector w 4#32) 1#32)
      (IntOp.divsi ArithUnit.vector w 4#32) = BitVec.ofNat 32 (k.val / 4) := by
  rintro k w rfl
  revert k
  decide +kernel

theorem owner_val {r : IVec S2048x1 32} (hr : Names r R) (n : Fin 2048) :
    k0_pay5 (q1 r) (q2 r) (q3 r) k0_pay4 (ix2 n 0) = BitVec.ofNat 32 ((R n).val / 4) := by
  pointwise [k0_pay5, k0_pay1, k0_pay2, k0_pay3, k0_pay4]
  exact owner_word (R n) _ (hr n)

theorem owner_lt (n : Fin 2048) : (R n).val / 4 < 32 := by have := (R n).isLt; omega

/-- The count as the kernel takes it: a product with one-hot columns, read back at the token's own column. -/
theorem slot_sum (n : Fin 2048) :
    (∑ x : Fin 32, (∑ a : Fin 2048, (if a.val < n.val then (1 : EReal) else 0) * if (R a).val / 4 = x.val then 1 else 0) * if (R n).val / 4 = x.val then 1 else 0)
      = ((slot R n : ℝ) : EReal) := by
  rw [Finset.sum_eq_single (⟨(R n).val / 4, owner_lt n⟩ : Fin 32)]
  · rw [if_pos rfl, mul_one, slot, EReal.coe_natCast, Finset.natCast_card_filter]
    refine Finset.sum_congr rfl fun a _ => ?_
    by_cases h1 : a.val < n.val
    · by_cases h2 : (R a).val / 4 = (R n).val / 4
      · rw [if_pos h1, if_pos h2, if_pos ⟨h1, h2⟩, one_mul]
      · rw [if_neg h2, if_neg (show ¬(a < n ∧ (R a).val / 4 = (R n).val / 4) from fun h => h2 h.2), mul_zero]
    · rw [if_neg h1, if_neg (show ¬(a < n ∧ (R a).val / 4 = (R n).val / 4) from fun h => h1 h.1), zero_mul]
  · intro x _ hx
    rw [if_neg fun h => hx (Fin.ext h.symm), mul_zero]
  · exact fun h => absurd (Finset.mem_univ _) h

theorem slot_val {r : IVec S2048x1 32} (hr : Names r R) (n : Fin 2048) :
    (k0_pay6 (F := Ideal) (q1 r) (q2 r) (q3 r) k0_pay4 (ix2 n 0) : EReal) = ((slot R n : ℝ) : EReal) := by
  have hcol (a : Fin 2048) (x : Fin 32) : IntOp.cmpi .eq (BitVec.ofNat 32 ((R a).val / 4)) (BitVec.ofNat 32 x.val)
      = BitVec.ofBool (decide ((R a).val / 4 = x.val)) :=
    cmpi_eq_ofNat (Nat.lt_trans (owner_lt a) (by decide)) (Nat.lt_trans x.isLt (by decide))
  have hlow (a : Fin 2048) : IntOp.cmpi .slt (BitVec.ofNat 32 a.val) (BitVec.ofNat 32 n.val) = BitVec.ofBool (decide (a.val < n.val)) :=
    cmpi_slt_ofNat (Nat.lt_trans a.isLt (by decide)) (Nat.lt_trans n.isLt (by decide))
  refine Eq.trans ?_ (slot_sum n)
  pointwise [k0_pay6]
  simp only [owner_val hr, hcol, hlow, bit_val]

theorem real_inj {a b : ℕ} : (((a : ℝ) : EReal) = ((b : ℝ) : EReal)) ↔ a = b := by
  rw [EReal.coe_eq_coe_iff, Nat.cast_inj]

/-- The selection of device `q`: row `s` picks the token of `q` that takes slot `s`. -/
theorem sel_val {r : IVec S2048x1 32} (hr : Names r R) {q : ℕ} (hq : q < 32) (s : Fin 128) (n : Fin 2048) :
    (k0_pay8 (F := Ideal) (BitVec.ofNat 32 q) (q1 r) (q2 r) (q3 r) k0_pay4 (ix2 s n) : EReal)
      = if s.val = slot R n ∧ (R n).val / 4 = q then 1 else 0 := by
  pointwise [k0_pay8]
  rw [owner_val hr, slot_val hr, word_val _ (by have := s.isLt; omega), cmpi_eq_ofNat (by have := owner_lt (R := R) n; omega) (by omega)]
  simp only [bit_val, real_inj]
  by_cases h1 : s.val = slot R n
  · by_cases h2 : (R n).val / 4 = q
    · rw [if_pos h1, if_pos h2, if_pos ⟨h1, h2⟩, one_mul]
    · rw [if_neg h2, if_neg (show ¬(s.val = slot R n ∧ (R n).val / 4 = q) from fun h => h2 h.2), mul_zero]
  · rw [if_neg h1, if_neg (show ¬(s.val = slot R n ∧ (R n).val / 4 = q) from fun h => h1 h.1), zero_mul]

/-- It picks one token. -/
theorem sel_sum (hf : Fits R) (n : Fin 2048) (f : Fin 2048 → EReal) :
    ∑ k : Fin 2048, (if (⟨slot R n, slot_lt hf n⟩ : Fin 128).val = slot R k ∧ (R k).val / 4 = (R n).val / 4 then 1 else 0) * f k = f n := by
  rw [Finset.sum_eq_single n]
  · rw [if_pos ⟨rfl, rfl⟩, one_mul]
  · intro b _ hb
    rw [if_neg fun h => hb (slot_inj h.1 h.2.symm).symm, zero_mul]
  · exact fun h => absurd (Finset.mem_univ n) h

theorem four_eq {a q j : ℕ} : (((a : ℝ) : EReal) = ((q : ℝ) : EReal) * ((4 : ℝ) : EReal) + ((j : ℝ) : EReal)) ↔ a = q * 4 + j := by
  rw [show ((q : ℝ) : EReal) * ((4 : ℝ) : EReal) + ((j : ℝ) : EReal) = (((q * 4 + j : ℕ) : ℝ) : EReal) by push_cast; rfl]
  exact real_inj

theorem four_iff {a j : ℕ} (hj : j < 4) : (((a : ℝ) : EReal) = (((a / 4 : ℕ) : ℝ) : EReal) * ((4 : ℝ) : EReal) + ((j : ℝ) : EReal)) ↔ a % 4 = j := by
  rw [four_eq]
  omega

theorem four_iff_zero {a : ℕ} : (((a : ℝ) : EReal) = (((a / 4 : ℕ) : ℝ) : EReal) * ((4 : ℝ) : EReal)) ↔ a % 4 = 0 := by
  have h := four_iff (a := a) (j := 0) (by decide)
  simp only [Nat.cast_zero, EReal.coe_zero, add_zero] at h
  exact h

theorem four_iff_one {a : ℕ} : (((a : ℝ) : EReal) = (((a / 4 : ℕ) : ℝ) : EReal) * ((4 : ℝ) : EReal) + 1) ↔ a % 4 = 1 := by
  have h := four_iff (a := a) (j := 1) (by decide)
  simp only [Nat.cast_one, EReal.coe_one] at h
  exact h

/-- A row whose token has the expert `e` is that token times the device's expert `e % 4`. -/
theorem mix_val (X : FVec Ideal S128x512 .bf16) (E : FVec Ideal S128x1 .f32) (w : Fin 4 → FVec Ideal S1x512x1024 .bf16) (e : ℕ) (he : e < 128)
    (s : Fin 128) (h : Fin 1024) (hE : E (ix2 s 0) = ((e : ℝ) : EReal)) :
    (k0_pay15 X E (k0_pay13 X E k0_pay11 (k0_pay12 (BitVec.ofNat 32 (e / 4))) (w 0) (w 1) (w 2)) (k0_pay14 (k0_pay12 (BitVec.ofNat 32 (e / 4))))
        (Scalar.ofBits .f32 0x40400000#32) (w 3) (ix2 s h) : EReal)
      = ∑ d : Fin 512, X (ix2 s d) * w ⟨e % 4, Nat.mod_lt _ (by decide)⟩ (ix3 0 d h) := by
  pointwise [k0_pay15, k0_pay13, k0_pay11, k0_pay12, k0_pay14, hE]
  have hw : (((BitVec.ofNat 32 (e / 4)).toInt : ℝ) : EReal) = (((e / 4 : ℕ) : ℝ) : EReal) := by rw [word_int (by omega), Int.cast_natCast]
  have h2 := four_iff (a := e) (j := 2) (by decide)
  have h3 := four_iff (a := e) (j := 3) (by decide)
  simp only [Nat.cast_ofNat] at h2 h3
  simp only [hw, val_two, val_three, val_four, four_iff_zero, four_iff_one, h2, h3, bit_val]
  obtain ⟨j, hj⟩ : ∃ j : Fin 4, (⟨e % 4, Nat.mod_lt _ (by decide)⟩ : Fin 4) = j := ⟨_, rfl⟩
  have hv : e % 4 = j.val := congrArg Fin.val hj
  rw [hj]
  simp only [hv]
  match j with
  | 0 => simp
  | 1 => simp
  | 2 => simp
  | 3 => simp

/-- Row `slot n` of the chunk of token `n`'s device: the token times its expert. -/
theorem chunk_val {r : IVec S2048x1 32} (hr : Names r R) (hf : Fits R) (x : FVec Ideal S2048x512 .bf16) (w : Fin 4 → FVec Ideal S1x512x1024 .bf16)
    (n : Fin 2048) (h : Fin 1024) :
    (chunk (F := Ideal) (BitVec.ofNat 32 ((R n).val / 4)) r x (w 0) (w 1) (w 2) (w 3) (ix2 ⟨slot R n, slot_lt hf n⟩ h) : EReal)
      = ∑ d : Fin 512, x (ix2 n d) * w ⟨(R n).val % 4, Nat.mod_lt _ (by decide)⟩ (ix3 0 d h) := by
  have hrow (d : Fin 512) : (k0_pay9 (F := Ideal) (BitVec.ofNat 32 ((R n).val / 4)) (q1 r) (q2 r) (q3 r) k0_pay4 x (ix2 ⟨slot R n, slot_lt hf n⟩ d) : EReal)
      = x (ix2 n d) := by
    pointwise [k0_pay9]
    simp only [sel_val hr (owner_lt n)]
    exact sel_sum hf n fun k => x (ix2 k d)
  have hexp : (k0_pay10 (F := Ideal) (BitVec.ofNat 32 ((R n).val / 4)) (q1 r) (q2 r) (q3 r) k0_pay4 (ix2 ⟨slot R n, slot_lt hf n⟩ 0) : EReal)
      = (((R n).val : ℝ) : EReal) := by
    pointwise [k0_pay10]
    simp only [sel_val hr (owner_lt n)]
    refine (sel_sum hf n fun k => (FloatOps.sitofp (F := Ideal) .bf16 (q1 r (ix2 k 0)) : EReal)).trans ?_
    show (FloatOps.sitofp (F := Ideal) .bf16 (q1 r (ix2 n 0)) : EReal) = _
    pointwise [k0_pay1]
    rw [hr n, word_val _ (by have := (R n).isLt; omega)]
  refine (mix_val _ _ w (R n).val (R n).isLt ⟨slot R n, slot_lt hf n⟩ h hexp).trans ?_
  exact Finset.sum_congr rfl fun d _ => congrArg (· * _) (hrow d)

/-! ## The accumulation -/

/-- An accumulation adds to row `n` the row that token `n` has in the chunk, if the chunk is its device's. -/
theorem accum_val {r : IVec S2048x1 32} (hr : Names r R) (hf : Fits R) {p : ℕ} (hp : p < 32) (ch : FVec Ideal S128x1024 .bf16) (old : FVec Ideal S2048x1024 .f32)
    (n : Fin 2048) (h : Fin 1024) :
    (accum (F := Ideal) (BitVec.ofNat 32 p) (colf r) ch old (ix2 n h) : EReal)
      = old (ix2 n h) + if (R n).val / 4 = p then ch (ix2 ⟨slot R n, slot_lt hf n⟩ h) else 0 := by
  have hcol : (colf (F := Ideal) r (ix2 n 0) : EReal) = (((R n).val / 4 : ℕ) : ℝ) * ((128 : ℝ) : EReal) + ((slot R n : ℝ) : EReal) := by
    unfold colf
    pointwise [k0_pay7]
    rw [owner_val hr, slot_val hr, val_cap, word_val _ (by have := owner_lt (R := R) n; omega)]
  unfold accum pick
  generalize colf (F := Ideal) r = C at hcol ⊢
  pointwise [k0_pay22, k0_pay18, k0_pay17]
  rw [hcol, val_cap, word_int (by omega)]
  refine congrArg (fun z : EReal => old (ix2 n h) + z) ?_
  have hs := slot_lt hf n
  have ho := owner_lt (R := R) n
  have e (s : Fin 128) : ((FloatOps.sitofp (F := Ideal) .f32 (BitVec.ofNat 32 s.val) : EReal)
      = (((R n).val / 4 : ℕ) : ℝ) * ((128 : ℝ) : EReal) + ((slot R n : ℝ) : EReal) - (((p : ℕ) : ℤ) : ℝ) * ((128 : ℝ) : EReal))
      ↔ ((⟨slot R n, slot_lt hf n⟩ : Fin 128) = s ∧ (R n).val / 4 = p) := by
    have hlt := s.isLt
    rw [word_val _ (by omega), ← EReal.coe_mul, ← EReal.coe_mul, ← EReal.coe_add, ← EReal.coe_sub, EReal.coe_eq_coe_iff, Fin.ext_iff]
    show _ ↔ slot R n = s.val ∧ _
    rw [eq_sub_iff_add_eq, show (s.val : ℝ) + (((p : ℕ) : ℤ) : ℝ) * 128 = ((s.val + p * 128 : ℕ) : ℝ) by push_cast; rfl,
      show (((R n).val / 4 : ℕ) : ℝ) * 128 + (slot R n : ℝ) = (((R n).val / 4 * 128 + slot R n : ℕ) : ℝ) by push_cast; rfl, Nat.cast_inj]
    omega
  simp only [e, bit_val]
  by_cases hp' : (R n).val / 4 = p
  · simp [hp']
  · simp [hp']

end Cert.Dispatch

end
-- ==== Proof.Result.lean ====
/-
# The result of every device

From the routing of the tokens to the array that each device ends with, and the same array from the reference.
-/
module

public import proofs.«01_k».proof.Proof.Run
public import proofs.«01_k».proof.Proof.Value

@[expose] public section

set_option maxRecDepth 16384

noncomputable section

namespace Cert.Dispatch

open Cert.KernelIdeal Cert.KernelIdeal.Gen
open Idealize.ShloMosaic Idealize.ShloMosaic.TcCoe Idealize.SL.Sem

variable (m : (ℓ : Loc nD τ sig) → Buf (Elt Ideal) ℓ)

/-- What every device holds: the same tokens and indices, and its four of the experts. -/
structure Holds (R : Fin 2048 → Fin 128) (x : FVec Ideal S2048x512 .bf16) (r : IVec S2048x1 32) (w : (⟨3, ![128, 512, 1024]⟩ : Shape).Idx → EReal) : Prop where
  tokens : ∀ c : Dev nD, m ((c : Thread nD τ).loc main_arg0) = x
  index : ∀ c : Dev nD, m ((c : Thread nD τ).loc main_arg2) = r
  experts : ∀ (c : Dev nD) (j : Fin 4) (d : Fin 512) (h : Fin 1024),
    m ((c : Thread nD τ).loc main_arg3) (ix3 j d h) = w (ix3 (⟨4 * c.val + j.val, by have := val_lt c; have := j.isLt; omega⟩ : Fin 128) d h)

variable {m} {R : Fin 2048 → Fin 128} {x : FVec Ideal S2048x512 .bf16} {r : IVec S2048x1 32} {w : (⟨3, ![128, 512, 1024]⟩ : Shape).Idx → EReal}

theorem xstg_eq (H : Holds m R x r w) (c : Dev nD) : xstg m c = x := by
  rw [← H.tokens c]
  exact funext fun i => congrArg (m ((c : Thread nD τ).loc main_arg0)) (blk_emb0 i)

theorem rstg_eq (H : Holds m R x r w) (c : Dev nD) : rstg m c = r := by
  rw [← H.index c]
  exact funext fun i => congrArg (m ((c : Thread nD τ).loc main_arg2)) (blk_emb1 i)

theorem wstg_eq (c : Dev nD) : wstg m c = m ((c : Thread nD τ).loc main_arg3) :=
  funext fun i => congrArg (m ((c : Thread nD τ).loc main_arg3)) (blk_emb2 i)

theorem slab_apply (f : (cc0_stg2_0 : Ref sig .tc).ty.Contents (Elt Ideal)) (j : Fin 4)
    (hj : ∀ a, (![j.val, 0, 0] : Fin 3 → Nat) a + S1x512x1024.size a ≤ S4x512x1024.size a) (d : Fin 512) (h : Fin 1024) :
    slab f j.val hj (ix3 0 d h) = f (ix3 j d h) := by
  refine congrArg f (funext fun a => ?_)
  match a with
  | 0 => exact Fin.ext (show j.val + 1 * 0 = j.val by omega)
  | 1 => exact Fin.ext (show 0 + 1 * d.val = d.val by omega)
  | 2 => exact Fin.ext (show 0 + 1 * h.val = h.val by omega)

/-- The product of token `n` with its expert. -/
def row (R : Fin 2048 → Fin 128) (x : FVec Ideal S2048x512 .bf16) (w : (⟨3, ![128, 512, 1024]⟩ : Shape).Idx → EReal) (n : Fin 2048) (h : Fin 1024) : EReal :=
  ∑ d : Fin 512, x (ix2 n d) * w (ix3 (R n) d h)

/-- The device of a token's expert. -/
def home (R : Fin 2048 → Fin 128) (n : Fin 2048) : Dev nD := ⟨(R n).val / 4, owner_lt n⟩

theorem chunkOf_home (hr : Names r R) (hf : Fits R) (H : Holds m R x r w) (n : Fin 2048) (h : Fin 1024) :
    (chunkOf m (home R n) (ix2 ⟨slot R n, slot_lt hf n⟩ h) : EReal) = row R x w n h := by
  unfold chunkOf
  rw [meW_eq, xstg_eq H, rstg_eq H]
  have hj (j : Fin 4) (a : Fin 3) : (![j.val, 0, 0] : Fin 3 → Nat) a + S1x512x1024.size a ≤ S4x512x1024.size a := by
    have := j.isLt
    match a with
    | 0 => show j.val + 1 ≤ 4; omega
    | 1 => show 0 + 512 ≤ 512; omega
    | 2 => show 0 + 1024 ≤ 1024; omega
  refine (chunk_val hr hf x (fun j => slab (wstg m (home R n)) j.val (hj j)) n h).trans ?_
  refine Finset.sum_congr rfl fun d _ => congrArg (fun z : EReal => (x (ix2 n d) : EReal) * z) ?_
  refine (slab_apply _ _ _ d h).trans ?_
  rw [wstg_eq, H.experts]
  refine congrArg w (congrArg (fun e : Fin 128 => ix3 e d h) (Fin.ext ?_))
  show 4 * ((R n).val / 4) + (R n).val % 4 = (R n).val
  omega

/-- One accumulation of device `p`'s chunk. -/
theorem accum_chunk (hr : Names r R) (hf : Fits R) (H : Holds m R x r w) (p : Dev nD) (old : FVec Ideal S2048x1024 .f32) (n : Fin 2048) (h : Fin 1024) :
    (accum (F := Ideal) (BitVec.ofNat 32 p.val) (colf r) (chunkOf m p) old (ix2 n h) : EReal) = old (ix2 n h) + if home R n = p then row R x w n h else 0 := by
  rw [accum_val hr hf (val_lt p) _ old n h]
  by_cases e : home R n = p
  · have e' : (R n).val / 4 = p.val := congrArg Fin.val e
    rw [if_pos e, if_pos e', ← e, chunkOf_home hr hf H]
  · have e' : ¬ (R n).val / 4 = p.val := fun e' => e (Fin.ext e')
    rw [if_neg e, if_neg e']

/-- The peers' accumulations: the row is added where the list meets the token's device, at most once. -/
theorem fold_val (hr : Names r R) (hf : Fits R) (H : Holds m R x r w) (c : Dev nD) (n : Fin 2048) (h : Fin 1024) :
    ∀ (l : List (Fin 31)) (old : FVec Ideal S2048x1024 .f32), l.Nodup →
      (l.foldl (addChunk m c (colf r)) old (ix2 n h) : EReal) = old (ix2 n h) + if ∃ i ∈ l, home R n = back i c then row R x w n h else 0
  | [], old, _ => by simp
  | i :: l, old, hl => by
    have hl := List.nodup_cons.1 hl
    rw [List.foldl_cons, fold_val hr hf H c n h l _ hl.2, addChunk, peerW_eq, accum_chunk hr hf H, add_assoc]
    refine congrArg (fun z : EReal => (old (ix2 n h) : EReal) + z) ?_
    by_cases e : home R n = back i c
    · have hn : ¬ ∃ j ∈ l, home R n = back j c := fun ⟨j, hj, e'⟩ => hl.1 (back_inj (e.symm.trans e') ▸ hj)
      rw [if_pos e, if_neg hn, if_pos ⟨i, List.mem_cons_self, e⟩, add_zero]
    · rw [if_neg e, zero_add]
      refine if_congr ⟨fun ⟨j, hj, e'⟩ => ⟨j, List.mem_cons_of_mem _ hj, e'⟩, fun ⟨j, hj, e'⟩ => ?_⟩ rfl rfl
      rcases List.mem_cons.1 hj with rfl | hj
      · exact absurd e' e
      · exact ⟨j, hj, e'⟩

theorem outAt_val (hr : Names r R) (hf : Fits R) (H : Holds m R x r w) (c : Dev nD) (n : Fin 2048) (h : Fin 1024) :
    (outAt m c (ix2 n h) : EReal) = row R x w n h := by
  unfold outAt
  rw [rstg_eq H, fold_val hr hf H c n h steps _ steps_nodup, meW_eq, accum_chunk hr hf H]
  have h0 : (k0_pay16 (F := Ideal) (ix2 n h) : EReal) = 0 := by pointwise [k0_pay16]
  rw [h0, zero_add]
  by_cases e : home R n = c
  · have hn : ¬ ∃ j ∈ steps, home R n = back j c := fun ⟨j, _, e'⟩ => back_ne j c (e'.symm.trans e)
    rw [if_pos e, if_neg hn, add_zero]
  · rw [if_neg e, zero_add, if_pos ⟨stepTo (home R n) c, mem_steps _, (back_stepTo e).symm⟩]

end Cert.Dispatch

end
-- ==== Proof.Ref.lean ====
/-
# The reference at an index, and what the precondition says
-/
module

public import proofs.«01_k».proof.Defs
public import proofs.«01_k».proof.Proof.Gen.ReferenceIdeal.Run
public import Idealize.ShloMosaic.PureOps.Ideal
public import Idealize.ShloMosaic.Lib.Pointwise
public import Idealize.ShloMosaic.Lib.WordCmp
public import Idealize.ShloMosaic.Lib.IndicatorCount
public import Idealize.ShloMosaic.Lib.StableHlo.Predicate

@[expose] public section

set_option maxRecDepth 16384

noncomputable section

namespace Cert.Dispatch

open Idealize.ShloMosaic Idealize.ShloMosaic.TcCoe Idealize.SL.Sem
open Idealize.ShloMosaic.WordCmp

section Reference

open Cert.ReferenceIdeal Cert.ReferenceIdeal.Gen

/-- The index as the reference reads it: a negative one counts from the end. -/
def wrapped (r : IVec S2048x1 32) : IVec S2048x1 32 :=
  broadcastInDim S2048x1 ![0] bcast_S2048_S2048x1_0 (select (cmpi .slt (shapeCast _ r shapeCasts_S2048x1_S2048) (broadcastInDim S2048 ![] bcast_S_S2048 (constantI S_ 32 0#32))) (addi (shapeCast _ r shapeCasts_S2048x1_S2048) (broadcastInDim S2048 ![] bcast_S_S2048 (constantI S_ 32 128#32))) (shapeCast _ r shapeCasts_S2048x1_S2048))

/-- The reference's result. -/
def product (x : FVec Ideal S2048x512 .bf16) (r : IVec S2048x1 32) (w : FVec Ideal S128x512x1024 .bf16) : FVec Ideal S2048x1024 .f32 :=
  Host.dotGeneral dot_S2048x512_S2048x512x1024_S2048x1024_1_1_n_2_0_0 none (extf .f32 x bitsLt_bf16_f32) (Host.gather gather_S128x512x1024_S2048x1_S2048x512x1024_12_0_n_n_0_1_15121024 (extf .f32 w bitsLt_bf16_f32) (wrapped r))

theorem gather_val (w : FVec Ideal S128x512x1024 .f32) (r : IVec S2048x1 32) (n : Fin 2048) (d : Fin 512) (h : Fin 1024) :
    Host.gather gather_S128x512x1024_S2048x1_S2048x512x1024_12_0_n_n_0_1_15121024 w r (ix3 n d h)
      = w (ix3 ⟨min (r (ix2 n 0)).toInt.toNat 127, by omega⟩ d h) := by
  unfold Host.gather
  refine congrArg w (funext fun a => Fin.ext ?_)
  show gather_S128x512x1024_S2048x1_S2048x512x1024_12_0_n_n_0_1_15121024.start (ix3 n d h) r a
    + gather_S128x512x1024_S2048x1_S2048x512x1024_12_0_n_n_0_1_15121024.batchCoord (ix3 n d h) a
    + gather_S128x512x1024_S2048x1_S2048x512x1024_12_0_n_n_0_1_15121024.offCoord (ix3 n d h) a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    unfold GatherDims.start
    rw [dif_pos (show (0 : Fin 3) ∈ gather_S128x512x1024_S2048x1_S2048x512x1024_12_0_n_n_0_1_15121024.startIndexMap from List.mem_singleton.mpr rfl)]
    have hsi : gather_S128x512x1024_S2048x1_S2048x512x1024_12_0_n_n_0_1_15121024.siIdx (ix3 n d h)
        ⟨List.idxOf (0 : Fin 3) gather_S128x512x1024_S2048x1_S2048x512x1024_12_0_n_n_0_1_15121024.startIndexMap,
          List.idxOf_lt_length_iff.2 (List.mem_singleton.mpr rfl)⟩ = ix2 n 0 := by
      funext b
      refine Fin.ext ?_
      match b with
      | ⟨0, _⟩ => rfl
      | ⟨1, _⟩ => rfl
    rw [hsi]
    rfl
  | 1 =>
    unfold GatherDims.start GatherDims.offCoord
    rw [dif_neg (by decide), dif_pos (by decide)]
    exact (Nat.zero_add _).trans (show d.val = d.val from rfl)
  | 2 =>
    unfold GatherDims.start GatherDims.offCoord
    rw [dif_neg (by decide), dif_pos (by decide)]
    exact (Nat.zero_add _).trans (show h.val = h.val from rfl)

theorem product_val {x : FVec Ideal S2048x512 .bf16} {r : IVec S2048x1 32} {w : FVec Ideal S128x512x1024 .bf16} {R : Fin 2048 → Fin 128}
    (hr : ∀ n, r (ix2 n 0) = BitVec.ofNat 32 (R n).val) (n : Fin 2048) (h : Fin 1024) :
    (product x r w (ix2 n h) : EReal) = ∑ d : Fin 512, x (ix2 n d) * w (ix3 (R n) d h) := by
  have hw : wrapped r (ix2 n 0) = BitVec.ofNat 32 (R n).val := by
    pointwise [wrapped]
    rw [hr n]
    revert R
    intro R hr
    generalize R n = k
    revert k
    decide +kernel
  unfold product
  pointwise
  refine Finset.sum_congr rfl fun d _ => congrArg (fun z : EReal => (x (ix2 n d) : EReal) * z) ?_
  refine (gather_val _ _ n d h).trans ?_
  pointwise
  refine congrArg w (congrArg (fun e : Fin 128 => ix3 e d h) (Fin.ext ?_))
  have hk : ∀ k : Fin 128, min (BitVec.ofNat 32 k.val).toInt.toNat 127 = k.val := by decide +kernel
  exact (congrArg (fun b : BitVec 32 => min b.toInt.toNat 127) hw).trans (hk (R n))

end Reference

section Precondition

open Cert.Pre_routed_within_capacity_KernelIdeal

theorem bits_one : ∀ {a b : BitVec 1}, IntOp.andi a b = 1#1 → a = 1#1 ∧ b = 1#1 := by decide

theorem word_range {a : BitVec 32} (h1 : IntOp.cmpi .sge a 0#32 = 1#1) (h2 : IntOp.cmpi .slt a 128#32 = 1#1) : a.toNat < 128 := by
  have h1 := BitVec.sle_iff_toInt_le.1 ((StableHlo.Predicate.ofBool_eq_one_iff _).1 h1)
  have h2 := BitVec.slt_iff_toInt_lt.1 ((StableHlo.Predicate.ofBool_eq_one_iff _).1 h2)
  rw [show (0#32 : BitVec 32).toInt = 0 by decide] at h1
  rw [show (128#32 : BitVec 32).toInt = 128 by decide] at h2
  rw [BitVec.toInt_eq_toNat_cond] at h1 h2
  have := a.isLt
  split at h1 <;> omega

/-- The device of an index, as the precondition divides. -/
theorem quarter {a : BitVec 32} (h : a.toNat < 128) : IntOp.divsi .host a 4#32 = BitVec.ofNat 32 (a.toNat / 4) := by
  have hk : ∀ k : Fin 128, IntOp.divsi .host (BitVec.ofNat 32 k.val) 4#32 = BitVec.ofNat 32 (k.val / 4) := by decide +kernel
  have e : BitVec.ofNat 32 a.toNat = a := by simp
  calc IntOp.divsi .host a 4#32 = IntOp.divsi .host (BitVec.ofNat 32 a.toNat) 4#32 := by rw [e]
    _ = _ := hk ⟨a.toNat, h⟩

/-- The precondition: every index names an expert, and every device is sent at most 128 tokens. -/
theorem routed [Facts] (x : FVec Ideal S2048x512 .bf16) (y : FVec Ideal S512x128 .bf16) (r : IVec S2048x1 32) (w : FVec Ideal S4x512x1024 .bf16)
    (hp : fn x y r w = fun _ => 1#1) : ∃ R : Fin 2048 → Fin 128, (∀ n, r (ix2 n 0) = BitVec.ofNat 32 (R n).val) ∧
      ∀ n : Fin 2048, (Finset.univ.filter fun k : Fin 2048 => (R k).val / 4 = (R n).val / 4).card ≤ 128 := by
  have h (n : Fin 2048) := congrFun hp (ix1 n)
  simp only [fn] at h
  pointwise at h
  have hlt (n : Fin 2048) : (r (ix2 n 0)).toNat < 128 := by
    have h1 := (bits_one (bits_one (h n)).1).1
    have h2 := (bits_one (bits_one (h n)).1).2
    exact word_range h1 h2
  refine ⟨fun n => ⟨(r (ix2 n 0)).toNat, hlt n⟩, fun n => by simp, fun n => ?_⟩
  have h3 := (bits_one (h n)).2
  rw [IndicatorCount.fold_addi_setWidth_eq_card] at h3
  have hc : (Finset.univ.filter fun k : Fin 2048 => IntOp.cmpi .eq (IntOp.divsi .host (r (ix2 n 0)) 4#32) (IntOp.divsi .host (r (ix2 k 0)) 4#32) = 1#1).card ≤ 2048 :=
    (Finset.card_le_univ _).trans (by simp)
  rw [StableHlo.Predicate.sle_iff_toNat (by rw [BitVec.toNat_ofNat, Nat.mod_eq_of_lt (by omega)]; omega) (by decide), BitVec.toNat_ofNat, Nat.mod_eq_of_lt (by omega)] at h3
  refine (Finset.card_le_card fun k hk => ?_).trans h3
  refine Finset.mem_filter.2 ⟨Finset.mem_univ _, ?_⟩
  have hk := (Finset.mem_filter.1 hk).2
  rw [StableHlo.Predicate.cmpi_eq_iff, quarter (hlt n), quarter (hlt k)]
  exact congrArg (BitVec.ofNat 32) hk.symm

end Precondition

end Cert.Dispatch

end
-- ==== Proof.lean ====
/- The certificate: the claims about the kernel, its idealization and the reference, assembled from the modules of
   Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Result
public import proofs.«01_k».proof.Proof.Ref
public import Idealize.ShloMosaic.Adequacy
public import Idealize.ShloMosaic.Init
public import Idealize.ShloMosaic.Lib.Quiescent
public import Idealize.ShloMosaic.Lib.Layout
public import Idealize.ShloMosaic.Lib.Pointwise

@[expose] public section

noncomputable section

namespace Cert.Proof

open Idealize.ShloMosaic Idealize.SL.Sem

/-! ## The kernel and its idealization have one text -/

section Text

variable {F : FTy → Type} [FloatOps F]

set_option maxRecDepth 65536 in
theorem bodies_eq : Cert.Kernel.defs₀ (F := F) = Cert.KernelIdeal.defs₀ (F := F) := by
  unfold Cert.Kernel.defs₀ Cert.KernelIdeal.defs₀
  refine congrArg (Defs.onTc (nD := Cert.Kernel.nD) (τ := Cert.Kernel.τ) (sig := Cert.Kernel.sig) (Λ := Cert.Kernel.Λ₀)) ?_
  funext l x
  match l, x with
  | ⟨0, _⟩, (t, s) => rfl

theorem defs_eq : Cert.Kernel.defs (F := F) = Cert.KernelIdeal.defs (F := F) := congrArg (Pipeline.defs Cert.Kernel.pcfgs) bodies_eq

end Text

/-! ## The frames -/

set_option maxRecDepth 65536 in
/-- The kernel runs and leaves its arguments and counters as they were. -/
theorem frame_kernel : Cert.quiescent_Kernel (hKernel := Cert.Kernel.Gen.facts) := fun m g _ => by
  rw [defs_eq]
  exact (θ_run Cert.KernelIdeal.defs _ _).mono (fun _ h => ⟨fun c => (h.1 c).2, h.2⟩) (Cert.Dispatch.run_main (F := Bits) m g)

/-- So does its idealization. -/
theorem frame_ideal : Cert.quiescent_KernelIdeal (hKernelIdeal := Cert.KernelIdeal.Gen.facts) := fun m g _ =>
  (θ_run Cert.KernelIdeal.defs _ _).mono (fun _ h => ⟨fun c => (h.1 c).2, h.2⟩) (Cert.Dispatch.run_main (F := Ideal) m g)

/-- So does the reference, which has no counters. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-! ## The precondition's shapes -/

theorem pre_kernel : Cert.Pre_routed_within_capacity_KernelIdeal.Facts :=
  ⟨by decide, by decide, by decide, by decide, by decide, by decide, by decide, by decide, by decide⟩

theorem pre_reference : Cert.Pre_routed_within_capacity_ReferenceIdeal.Facts :=
  ⟨by decide, by decide, by decide, by decide, by decide, by decide, by decide, by decide, by decide⟩

/-! ## The value -/

section Value

variable (m : (ℓ : Loc Cert.KernelIdeal.nD Cert.KernelIdeal.τ Cert.KernelIdeal.sig) → Buf (Elt Ideal) ℓ)
  (x : FVec Ideal ⟨2, ![2048, 512]⟩ .bf16) (r : IVec ⟨2, ![2048, 1]⟩ 32) (w : FVec Ideal ⟨3, ![128, 512, 1024]⟩ .bf16)

/-- Under the precondition every device's result is the reference's. -/
theorem outAt_product (hpre : Cert.Pre_KernelIdeal_routed_within_capacity_KernelIdeal (hPre_routed_within_capacity_KernelIdeal := pre_kernel) m)
    (hx : ∀ c : Dev Cert.KernelIdeal.nD, m ((c.tc : Thread Cert.KernelIdeal.nD Cert.KernelIdeal.τ).loc Cert.KernelIdeal.main_arg0) = x)
    (hr : ∀ c : Dev Cert.KernelIdeal.nD, m ((c.tc : Thread Cert.KernelIdeal.nD Cert.KernelIdeal.τ).loc Cert.KernelIdeal.main_arg2) = r)
    (hw : ∀ c : Dev Cert.KernelIdeal.nD, m ((c.tc : Thread Cert.KernelIdeal.nD Cert.KernelIdeal.τ).loc Cert.KernelIdeal.main_arg3)
      = Layout.block ⟨3, ![4, 512, 1024]⟩ ⟨3, ![128, 512, 1024]⟩ 0 32 c w)
    (c : Dev Cert.KernelIdeal.nD) : Cert.Dispatch.outAt m c = Cert.Dispatch.product x r w := by
  haveI := pre_kernel
  obtain ⟨R, hR, hf⟩ := Cert.Dispatch.routed _ _ _ _ (hpre c)
  have hR : Cert.Dispatch.Names r R := fun n => by rw [← hr c]; exact hR n
  have H : Cert.Dispatch.Holds m R x r w := ⟨hx, hr, fun c j d h => by
    rw [hw c, Layout.block_apply]
    refine congrArg w (funext fun a => ?_)
    match a with
    | 0 => exact Fin.ext (show c.val * 4 + j.val = 4 * c.val + j.val by omega)
    | 1 => exact Fin.ext rfl
    | 2 => exact Fin.ext rfl⟩
  funext i
  idx_vars i
  exact (Cert.Dispatch.outAt_val hR hf H c _ _).trans (Cert.Dispatch.product_val hR _ _).symm

end Value

/-- The kernel's idealization and the reference end with the same result. -/
theorem value : Cert.algebraic_KernelIdeal_ReferenceIdeal_pre_routed_within_capacity_KernelIdeal (hKernelIdeal := Cert.KernelIdeal.Gen.facts)
    (hReferenceIdeal := Cert.ReferenceIdeal.Gen.facts) (hPre_routed_within_capacity_KernelIdeal := pre_kernel) := fun m g m' g' hpre hag =>
  ⟨Cert.Dispatch.product _ _ _,
    (θ_run Cert.KernelIdeal.defs _ _).mono
      (fun _ h c => ⟨(h.1 c).1.trans (outAt_product m _ _ _ hpre (fun c => (hag c).1) (fun c => (hag c).2.2.1) (fun c => (hag c).2.2.2) c), (h.1 c).2⟩)
      (Cert.Dispatch.run_main (F := Ideal) m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, pre_kernel, pre_reference,
    frame_kernel, frame_ideal, fun m g _ => frame_ideal m g trivial, frame_reference, fun m g _ => frame_reference m g trivial, trivial, value⟩

end Cert.Proof

end
